-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_small_KernelIdeal [hPre_small_KernelIdeal : Cert.Pre_small_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_small_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_small_ReferenceIdeal [hPre_small_ReferenceIdeal : Cert.Pre_small_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_small_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_UnclippedIdeal (m : (ℓ : Loc Cert.UnclippedIdeal.nD Cert.UnclippedIdeal.τ Cert.UnclippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_small_KernelIdeal [hKernelIdeal : Cert.KernelIdeal.Facts] [hPre_small_KernelIdeal : Cert.Pre_small_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_small_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_small_ReferenceIdeal [hReferenceIdeal : Cert.ReferenceIdeal.Facts] [hPre_small_ReferenceIdeal : Cert.Pre_small_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_small_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_UnclippedIdeal [hUnclippedIdeal : Cert.UnclippedIdeal.Facts] : Prop :=
  ∀ (m : (ℓ : Loc Cert.UnclippedIdeal.nD Cert.UnclippedIdeal.τ Cert.UnclippedIdeal.sig) → Buf (Elt Ideal) ℓ) (g : Dev Cert.UnclippedIdeal.nD → PrngReg), Pre_UnclippedIdeal m →
    θ_run (Cert.UnclippedIdeal.defs (F := Ideal)) (onTc (τ := Cert.UnclippedIdeal.τ) (Cert.UnclippedIdeal.main (F := Ideal))) ⟨m, fun _ => 0, g⟩ (fun r => (∀ c : Dev Cert.UnclippedIdeal.nD,
      r.2.mem ((c.tc : Thread Cert.UnclippedIdeal.nD Cert.UnclippedIdeal.τ).loc Cert.UnclippedIdeal.main_arg0) = m ((c.tc : Thread Cert.UnclippedIdeal.nD Cert.UnclippedIdeal.τ).loc Cert.UnclippedIdeal.main_arg0)
      ∧ r.2.mem ((c.tc : Thread Cert.UnclippedIdeal.nD Cert.UnclippedIdeal.τ).loc Cert.UnclippedIdeal.main_arg1) = m ((c.tc : Thread Cert.UnclippedIdeal.nD Cert.UnclippedIdeal.τ).loc Cert.UnclippedIdeal.main_arg1))
      ∧ r.2.sem = fun _ => 0)

def preserves_Kernel_KernelIdeal : Prop :=
  True

def algebraic_KernelIdeal_UnclippedIdeal [hKernelIdeal : Cert.KernelIdeal.Facts] [hUnclippedIdeal : Cert.UnclippedIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnclippedIdeal.nD Cert.UnclippedIdeal.τ Cert.UnclippedIdeal.sig) → Buf (Elt Ideal) ℓ) (g' : Dev Cert.UnclippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.UnclippedIdeal.nD).tc : Thread Cert.UnclippedIdeal.nD Cert.UnclippedIdeal.τ).loc Cert.UnclippedIdeal.main_arg0))
      ∧ m ((c.tc : Thread Cert.KernelIdeal.nD Cert.KernelIdeal.τ).loc Cert.KernelIdeal.main_arg1) = m' (((0 : Dev Cert.UnclippedIdeal.nD).tc : Thread Cert.UnclippedIdeal.nD Cert.UnclippedIdeal.τ).loc Cert.UnclippedIdeal.main_arg1)) →
    ∃ (v0 : Buf (Elt Ideal) (((0 : Dev Cert.UnclippedIdeal.nD).tc : Thread Cert.UnclippedIdeal.nD Cert.UnclippedIdeal.τ).loc Cert.UnclippedIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.UnclippedIdeal.defs (F := Ideal)) (onTc (τ := Cert.UnclippedIdeal.τ) (Cert.UnclippedIdeal.main (F := Ideal))) ⟨m', fun _ => 0, g'⟩ (fun r =>
          r.2.mem (((0 : Dev Cert.UnclippedIdeal.nD).tc : Thread Cert.UnclippedIdeal.nD Cert.UnclippedIdeal.τ).loc Cert.UnclippedIdeal.main_v5) = v0
          ∧ r.2.mem (((0 : Dev Cert.UnclippedIdeal.nD).tc : Thread Cert.UnclippedIdeal.nD Cert.UnclippedIdeal.τ).loc Cert.UnclippedIdeal.main_arg0) = m' (((0 : Dev Cert.UnclippedIdeal.nD).tc : Thread Cert.UnclippedIdeal.nD Cert.UnclippedIdeal.τ).loc Cert.UnclippedIdeal.main_arg0)
          ∧ r.2.mem (((0 : Dev Cert.UnclippedIdeal.nD).tc : Thread Cert.UnclippedIdeal.nD Cert.UnclippedIdeal.τ).loc Cert.UnclippedIdeal.main_arg1) = m' (((0 : Dev Cert.UnclippedIdeal.nD).tc : Thread Cert.UnclippedIdeal.nD Cert.UnclippedIdeal.τ).loc Cert.UnclippedIdeal.main_arg1))

def algebraic_KernelIdeal_ReferenceIdeal_pre_small_KernelIdeal [hKernelIdeal : Cert.KernelIdeal.Facts] [hReferenceIdeal : Cert.ReferenceIdeal.Facts] [hPre_small_KernelIdeal : Cert.Pre_small_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_small_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hUnclippedIdeal : Cert.UnclippedIdeal.Facts) (hPre_small_KernelIdeal : Cert.Pre_small_KernelIdeal.Facts) (hPre_small_ReferenceIdeal : Cert.Pre_small_ReferenceIdeal.Facts),
    quiescent_Kernel (hKernel := hKernel)
    ∧ quiescent_KernelIdeal (hKernelIdeal := hKernelIdeal)
    ∧ quiescent_KernelIdeal_pre_small_KernelIdeal (hKernelIdeal := hKernelIdeal) (hPre_small_KernelIdeal := hPre_small_KernelIdeal)
    ∧ quiescent_ReferenceIdeal (hReferenceIdeal := hReferenceIdeal)
    ∧ quiescent_ReferenceIdeal_pre_small_ReferenceIdeal (hReferenceIdeal := hReferenceIdeal) (hPre_small_ReferenceIdeal := hPre_small_ReferenceIdeal)
    ∧ quiescent_UnclippedIdeal (hUnclippedIdeal := hUnclippedIdeal)
    ∧ preserves_Kernel_KernelIdeal
    ∧ algebraic_KernelIdeal_UnclippedIdeal (hKernelIdeal := hKernelIdeal) (hUnclippedIdeal := hUnclippedIdeal)
    ∧ algebraic_KernelIdeal_ReferenceIdeal_pre_small_KernelIdeal (hKernelIdeal := hKernelIdeal) (hReferenceIdeal := hReferenceIdeal) (hPre_small_KernelIdeal := hPre_small_KernelIdeal)
-- ==== Pre_small_KernelIdeal.lean ====
abbrev S4096x256 : Shape := ⟨2, ![4096, 256]⟩
abbrev S4096x2048 : Shape := ⟨2, ![4096, 2048]⟩
abbrev S16x256x2048 : Shape := ⟨3, ![16, 256, 2048]⟩
abbrev S256x16x2048 : Shape := ⟨3, ![256, 16, 2048]⟩
abbrev S256x32768 : Shape := ⟨2, ![256, 32768]⟩
abbrev S4096x32768 : Shape := ⟨2, ![4096, 32768]⟩
abbrev S_ : Shape := ⟨0, ![]⟩

class Facts : Prop where
  shapeCasts_S4096x2048_S16x256x2048 : S4096x2048.ShapeCasts S16x256x2048
  transposes_S16x256x2048_S256x16x2048_1_0_2 : S16x256x2048.Transposes [1, 0, 2] S256x16x2048
  shapeCasts_S256x16x2048_S256x32768 : S256x16x2048.ShapeCasts S256x32768
  bcast_S_S4096x32768 : S_.BroadcastsInDim S4096x32768 (![] : Fin 0 → Fin S4096x32768.rank)
  dot_S4096x256_S256x32768_S4096x32768_1_0_0_1_n_n_wf : DotDims.WF S4096x256 S256x32768 S4096x32768 [1] [0] [0] [1] [] []

variable [Facts]

def dot_S4096x256_S256x32768_S4096x32768_1_0_0_1_n_n : DotDims S4096x256 S256x32768 S4096x32768 where
  lhsContracting := [1]
  rhsContracting := [0]
  lhsNonContracting := [0]
  rhsNonContracting := [1]
  lhsBatch := []
  rhsBatch := []
  wf := dot_S4096x256_S256x32768_S4096x32768_1_0_0_1_n_n_wf
def fn {F : FTy → Type} [FloatOps F] (main_arg0 : FVec F S4096x256 .f32) (main_arg1 : FVec F S4096x2048 .f32) : IVec S4096x32768 1 :=
  let main_v0 : FVec F S16x256x2048 .f32 := shapeCast S16x256x2048 main_arg1 shapeCasts_S4096x2048_S16x256x2048
  let main_v1 : FVec F S256x16x2048 .f32 := (transpose S256x16x2048 [1, 0, 2] · transposes_S16x256x2048_S256x16x2048_1_0_2) main_v0
  let main_v2 : FVec F S256x32768 .f32 := shapeCast S256x32768 main_v1 shapeCasts_S256x16x2048_S256x32768
  let main_v3 : FVec F S4096x32768 .f32 := (fun l r => Host.dotGeneral dot_S4096x256_S256x32768_S4096x32768_1_0_0_1_n_n none l r) main_arg0 main_v2
  let main_v4 : FVec F S4096x32768 .f32 := Host.absf main_v3
  let main_cst : FVec F S_ .f32 := constant S_ .f32 0x40700000#32
  let main_v5 : FVec F S4096x32768 .f32 := broadcastInDim S4096x32768 ![] bcast_S_S4096x32768 main_cst
  let main_v6 : IVec S4096x32768 1 := cmpf .ole main_v4 main_v5
  main_v6
-- ==== Pre_small_ReferenceIdeal.lean ====
abbrev S4096x4096 : Shape := ⟨2, ![4096, 4096]⟩
abbrev S4096x2048 : Shape := ⟨2, ![4096, 2048]⟩
abbrev S1x4096x2048 : Shape := ⟨3, ![1, 4096, 2048]⟩
abbrev S4096x1x2048 : Shape := ⟨3, ![4096, 1, 2048]⟩
abbrev S_ : Shape := ⟨0, ![]⟩

class Facts : Prop where
  shapeCasts_S4096x2048_S1x4096x2048 : S4096x2048.ShapeCasts S1x4096x2048
  transposes_S1x4096x2048_S4096x1x2048_1_0_2 : S1x4096x2048.Transposes [1, 0, 2] S4096x1x2048
  shapeCasts_S4096x1x2048_S4096x2048 : S4096x1x2048.ShapeCasts S4096x2048
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : FVec F S4096x4096 .f32) (main_arg1 : FVec F S4096x2048 .f32) : IVec S4096x2048 1 :=
  let main_v0 : FVec F S1x4096x2048 .f32 := shapeCast S1x4096x2048 main_arg1 shapeCasts_S4096x2048_S1x4096x2048
  let main_v1 : FVec F S4096x1x2048 .f32 := (transpose S4096x1x2048 [1, 0, 2] · transposes_S1x4096x2048_S4096x1x2048_1_0_2) main_v0
  let main_v2 : FVec F S4096x2048 .f32 := shapeCast S4096x2048 main_v1 shapeCasts_S4096x1x2048_S4096x2048
  let main_v3 : FVec F S4096x2048 .f32 := (fun l r => Host.dotGeneral dot_S4096x4096_S4096x2048_S4096x2048_1_0_0_1_n_n none l r) main_arg0 main_v2
  let main_v4 : FVec F S4096x2048 .f32 := Host.absf main_v3
  let main_cst : FVec F S_ .f32 := constant S_ .f32 0x42700000#32
  let main_v5 : FVec F S4096x2048 .f32 := broadcastInDim S4096x2048 ![] bcast_S_S4096x2048 main_cst
  let main_v6 : IVec S4096x2048 1 := cmpf .ole main_v4 main_v5
  main_v6
-- ==== Kernel.lean ====
abbrev S4096x256 : Shape := ⟨2, ![4096, 256]⟩
abbrev S4096x2048 : Shape := ⟨2, ![4096, 2048]⟩
abbrev S256x2048 : Shape := ⟨2, ![256, 2048]⟩
abbrev S16x256x256 : Shape := ⟨3, ![16, 256, 256]⟩
abbrev S16 : Shape := ⟨1, ![16]⟩
abbrev S_ : Shape := ⟨0, ![]⟩
abbrev S1 : Shape := ⟨1, ![1]⟩
abbrev S1x256x256 : Shape := ⟨3, ![1, 256, 256]⟩
abbrev S256x256 : Shape := ⟨2, ![256, 256]⟩

abbrev nBuf : Space → Nat
  | .hbm => 3
  | .vmem => 4
  | .smem => 0
  | _ => 0

abbrev bufTy : (tb : Table) → Fin (tcTables nBuf tb) → BufTy
  | .hbm, ⟨0, _⟩ => ⟨S4096x256, .f32⟩
  | .hbm, ⟨1, _⟩ => ⟨S4096x2048, .f32⟩
  | .hbm, ⟨2, _⟩ => ⟨S256x2048, .f32⟩
  | .local _ .vmem, ⟨0, _⟩ => ⟨S4096x256, .f32⟩
  | .local _ .vmem, ⟨1, _⟩ => ⟨S4096x2048, .f32⟩
  | .local _ .vmem, ⟨2, _⟩ => ⟨S256x2048, .f32⟩
  | .local _ .vmem, ⟨3, _⟩ => ⟨S16x256x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) (c1_i32_136 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v199 : BitVec 32 := Scalar.addi v2 c1_i32_136
  let c16_i32_137 : BitVec 32 := 16#32
  let c0_i32_138 : BitVec 32 := 0#32
  let v200 : BitVec 1 := Scalar.cmpi .eq c16_i32_137 c0_i32_138
  let c1_i32_139 : BitVec 32 := 1#32
  let v201 : BitVec 32 := Scalar.select v200 c1_i32_139 c16_i32_137
  let v202 : BitVec 32 := Scalar.remsi v199 v201
  let c0_i32_141 : BitVec 32 := 0#32
  let v204 : BitVec 1 := Scalar.cmpi .slt v202 c0_i32_141
  let c0_i32_142 : BitVec 32 := 0#32
  let v205 : BitVec 1 := Scalar.cmpi .slt v201 c0_i32_142
  let v206 : BitVec 1 := Scalar.xori v204 v205
  let c0_i32_140 : BitVec 32 := 0#32
  let v203 : BitVec 1 := Scalar.cmpi .ne v202 c0_i32_140
  let v207 : BitVec 1 := Scalar.andi v206 v203
  let v208 : BitVec 32 := Scalar.addi v202 v201
  let v209 : BitVec 32 := Scalar.select v207 v208 v202
  let c256_i32 : BitVec 32 := 256#32
  let v210 : BitVec 32 := Scalar.muli v209 c256_i32
  let c0_i32_150 : BitVec 32 := 0#32
  ![v210.toNat, 0]
def k0_dev16 (d0 : Dev nD) : Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_136 : BitVec 32 := 1#32
  let v199 : BitVec 32 := Scalar.addi v2 c1_i32_136
  let c16_i32_137 : BitVec 32 := 16#32
  let c0_i32_138 : BitVec 32 := 0#32
  let v200 : BitVec 1 := Scalar.cmpi .eq c16_i32_137 c0_i32_138
  let c1_i32_139 : BitVec 32 := 1#32
  let v201 : BitVec 32 := Scalar.select v200 c1_i32_139 c16_i32_137
  let v202 : BitVec 32 := Scalar.remsi v199 v201
  let c0_i32_141 : BitVec 32 := 0#32
  let v204 : BitVec 1 := Scalar.cmpi .slt v202 c0_i32_141
  let c0_i32_142 : BitVec 32 := 0#32
  let v205 : BitVec 1 := Scalar.cmpi .slt v201 c0_i32_142
  let v206 : BitVec 1 := Scalar.xori v204 v205
  let c0_i32_140 : BitVec 32 := 0#32
  let v203 : BitVec 1 := Scalar.cmpi .ne v202 c0_i32_140
  let v207 : BitVec 1 := Scalar.andi v206 v203
  let v208 : BitVec 32 := Scalar.addi v202 v201
  let v209 : BitVec 32 := Scalar.select v207 v208 v202
  let c1_i32_146 : BitVec 32 := 1#32
  let v211 : BitVec 32 := Scalar.muli v209 c1_i32_146
  let v212 : BitVec 32 := Scalar.addi c0_i32_147 v211
  v212.toNat
def k0_dev17 (d0 : Dev nD) : Nat :=
  let c0_i32_163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_151 : BitVec 32 := 2#32
  let v220 : BitVec 32 := Scalar.addi v2 c2_i32_151
  let c16_i32_152 : BitVec 32 := 16#32
  let c0_i32_153 : BitVec 32 := 0#32
  let v221 : BitVec 1 := Scalar.cmpi .eq c16_i32_152 c0_i32_153
  let c1_i32_154 : BitVec 32 := 1#32
  let v222 : BitVec 32 := Scalar.select v221 c1_i32_154 c16_i32_152
  let v223 : BitVec 32 := Scalar.remsi v220 v222
  let c0_i32_156 : BitVec 32 := 0#32
  let v225 : BitVec 1 := Scalar.cmpi .slt v223 c0_i32_156
  let c0_i32_157 : BitVec 32 := 0#32
  let v226 : BitVec 1 := Scalar.cmpi .slt v222 c0_i32_157
  let v227 : BitVec 1 := Scalar.xori v225 v226
  let c0_i32_155 : BitVec 32 := 0#32
  let v224 : BitVec 1 := Scalar.cmpi .ne v223 c0_i32_155
  let v228 : BitVec 1 := Scalar.andi v227 v224
  let v229 : BitVec 32 := Scalar.addi v223 v222
  let v230 : BitVec 32 := Scalar.select v228 v229 v223
  let c1_i32_162 : BitVec 32 := 1#32
  let v232 : BitVec 32 := Scalar.muli v230 c1_i32_162
  let v233 : BitVec 32 := Scalar.addi c0_i32_163 v232
  v233.toNat
def k0_dev18 (d0 : Dev nD) : Nat :=
  let c0_i32_179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_167 : BitVec 32 := 3#32
  let v241 : BitVec 32 := Scalar.addi v2 c3_i32_167
  let c16_i32_168 : BitVec 32 := 16#32
  let c0_i32_169 : BitVec 32 := 0#32
  let v242 : BitVec 1 := Scalar.cmpi .eq c16_i32_168 c0_i32_169
  let c1_i32_170 : BitVec 32 := 1#32
  let v243 : BitVec 32 := Scalar.select v242 c1_i32_170 c16_i32_168
  let v244 : BitVec 32 := Scalar.remsi v241 v243
  let c0_i32_172 : BitVec 32 := 0#32
  let v246 : BitVec 1 := Scalar.cmpi .slt v244 c0_i32_172
  let c0_i32_173 : BitVec 32 := 0#32
  let v247 : BitVec 1 := Scalar.cmpi .slt v243 c0_i32_173
  let v248 : BitVec 1 := Scalar.xori v246 v247
  let c0_i32_171 : BitVec 32 := 0#32
  let v245 : BitVec 1 := Scalar.cmpi .ne v244 c0_i32_171
  let v249 : BitVec 1 := Scalar.andi v248 v245
  let v250 : BitVec 32 := Scalar.addi v244 v243
  let v251 : BitVec 32 := Scalar.select v249 v250 v244
  let c1_i32_178 : BitVec 32 := 1#32
  let v253 : BitVec 32 := Scalar.muli v251 c1_i32_178
  let v254 : BitVec 32 := Scalar.addi c0_i32_179 v253
  v254.toNat
def k0_dev19 (d0 : Dev nD) : Nat :=
  let c0_i32_195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_183 : BitVec 32 := 4#32
  let v262 : BitVec 32 := Scalar.addi v2 c4_i32_183
  let c16_i32_184 : BitVec 32 := 16#32
  let c0_i32_185 : BitVec 32 := 0#32
  let v263 : BitVec 1 := Scalar.cmpi .eq c16_i32_184 c0_i32_185
  let c1_i32_186 : BitVec 32 := 1#32
  let v264 : BitVec 32 := Scalar.select v263 c1_i32_186 c16_i32_184
  let v265 : BitVec 32 := Scalar.remsi v262 v264
  let c0_i32_188 : BitVec 32 := 0#32
  let v267 : BitVec 1 := Scalar.cmpi .slt v265 c0_i32_188
  let c0_i32_189 : BitVec 32 := 0#32
  let v268 : BitVec 1 := Scalar.cmpi .slt v264 c0_i32_189
  let v269 : BitVec 1 := Scalar.xori v267 v268
  let c0_i32_187 : BitVec 32 := 0#32
  let v266 : BitVec 1 := Scalar.cmpi .ne v265 c0_i32_187
  let v270 : BitVec 1 := Scalar.andi v269 v266
  let v271 : BitVec 32 := Scalar.addi v265 v264
  let v272 : BitVec 32 := Scalar.select v270 v271 v265
  let c1_i32_194 : BitVec 32 := 1#32
  let v274 : BitVec 32 := Scalar.muli v272 c1_i32_194
  let v275 : BitVec 32 := Scalar.addi c0_i32_195 v274
  v275.toNat
def k0_dev20 (d0 : Dev nD) : Nat :=
  let c0_i32_211 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_199 : BitVec 32 := 5#32
  let v283 : BitVec 32 := Scalar.addi v2 c5_i32_199
  let c16_i32_200 : BitVec 32 := 16#32
  let c0_i32_201 : BitVec 32 := 0#32
  let v284 : BitVec 1 := Scalar.cmpi .eq c16_i32_200 c0_i32_201
  let c1_i32_202 : BitVec 32 := 1#32
  let v285 : BitVec 32 := Scalar.select v284 c1_i32_202 c16_i32_200
  let v286 : BitVec 32 := Scalar.remsi v283 v285
  let c0_i32_204 : BitVec 32 := 0#32
  let v288 : BitVec 1 := Scalar.cmpi .slt v286 c0_i32_204
  let c0_i32_205 : BitVec 32 := 0#32
  let v289 : BitVec 1 := Scalar.cmpi .slt v285 c0_i32_205
  let v290 : BitVec 1 := Scalar.xori v288 v289
  let c0_i32_203 : BitVec 32 := 0#32
  let v287 : BitVec 1 := Scalar.cmpi .ne v286 c0_i32_203
  let v291 : BitVec 1 := Scalar.andi v290 v287
  let v292 : BitVec 32 := Scalar.addi v286 v285
  let v293 : BitVec 32 := Scalar.select v291 v292 v286
  let c1_i32_210 : BitVec 32 := 1#32
  let v295 : BitVec 32 := Scalar.muli v293 c1_i32_210
  let v296 : BitVec 32 := Scalar.addi c0_i32_211 v295
  v296.toNat
def k0_dev21 (d0 : Dev nD) : Nat :=
  let c0_i32_227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_215 : BitVec 32 := 6#32
  let v304 : BitVec 32 := Scalar.addi v2 c6_i32_215
  let c16_i32_216 : BitVec 32 := 16#32
  let c0_i32_217 : BitVec 32 := 0#32
  let v305 : BitVec 1 := Scalar.cmpi .eq c16_i32_216 c0_i32_217
  let c1_i32_218 : BitVec 32 := 1#32
  let v306 : BitVec 32 := Scalar.select v305 c1_i32_218 c16_i32_216
  let v307 : BitVec 32 := Scalar.remsi v304 v306
  let c0_i32_220 : BitVec 32 := 0#32
  let v309 : BitVec 1 := Scalar.cmpi .slt v307 c0_i32_220
  let c0_i32_221 : BitVec 32 := 0#32
  let v310 : BitVec 1 := Scalar.cmpi .slt v306 c0_i32_221
  let v311 : BitVec 1 := Scalar.xori v309 v310
  let c0_i32_219 : BitVec 32 := 0#32
  let v308 : BitVec 1 := Scalar.cmpi .ne v307 c0_i32_219
  let v312 : BitVec 1 := Scalar.andi v311 v308
  let v313 : BitVec 32 := Scalar.addi v307 v306
  let v314 : BitVec 32 := Scalar.select v312 v313 v307
  let c1_i32_226 : BitVec 32 := 1#32
  let v316 : BitVec 32 := Scalar.muli v314 c1_i32_226
  let v317 : BitVec 32 := Scalar.addi c0_i32_227 v316
  v317.toNat
def k0_dev22 (d0 : Dev nD) : Nat :=
  let c0_i32_243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_231 : BitVec 32 := 7#32
  let v325 : BitVec 32 := Scalar.addi v2 c7_i32_231
  let c16_i32_232 : BitVec 32 := 16#32
  let c0_i32_233 : BitVec 32 := 0#32
  let v326 : BitVec 1 := Scalar.cmpi .eq c16_i32_232 c0_i32_233
  let c1_i32_234 : BitVec 32 := 1#32
  let v327 : BitVec 32 := Scalar.select v326 c1_i32_234 c16_i32_232
  let v328 : BitVec 32 := Scalar.remsi v325 v327
  let c0_i32_236 : BitVec 32 := 0#32
  let v330 : BitVec 1 := Scalar.cmpi .slt v328 c0_i32_236
  let c0_i32_237 : BitVec 32 := 0#32
  let v331 : BitVec 1 := Scalar.cmpi .slt v327 c0_i32_237
  let v332 : BitVec 1 := Scalar.xori v330 v331
  let c0_i32_235 : BitVec 32 := 0#32
  let v329 : BitVec 1 := Scalar.cmpi .ne v328 c0_i32_235
  let v333 : BitVec 1 := Scalar.andi v332 v329
  let v334 : BitVec 32 := Scalar.addi v328 v327
  let v335 : BitVec 32 := Scalar.select v333 v334 v328
  let c1_i32_242 : BitVec 32 := 1#32
  let v337 : BitVec 32 := Scalar.muli v335 c1_i32_242
  let v338 : BitVec 32 := Scalar.addi c0_i32_243 v337
  v338.toNat
def k0_dev23 (d0 : Dev nD) : Nat :=
  let c0_i32_259 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_247 : BitVec 32 := 8#32
  let v346 : BitVec 32 := Scalar.addi v2 c8_i32_247
  let c16_i32_248 : BitVec 32 := 16#32
  let c0_i32_249 : BitVec 32 := 0#32
  let v347 : BitVec 1 := Scalar.cmpi .eq c16_i32_248 c0_i32_249
  let c1_i32_250 : BitVec 32 := 1#32
  let v348 : BitVec 32 := Scalar.select v347 c1_i32_250 c16_i32_248
  let v349 : BitVec 32 := Scalar.remsi v346 v348
  let c0_i32_252 : BitVec 32 := 0#32
  let v351 : BitVec 1 := Scalar.cmpi .slt v349 c0_i32_252
  let c0_i32_253 : BitVec 32 := 0#32
  let v352 : BitVec 1 := Scalar.cmpi .slt v348 c0_i32_253
  let v353 : BitVec 1 := Scalar.xori v351 v352
  let c0_i32_251 : BitVec 32 := 0#32
  let v350 : BitVec 1 := Scalar.cmpi .ne v349 c0_i32_251
  let v354 : BitVec 1 := Scalar.andi v353 v350
  let v355 : BitVec 32 := Scalar.addi v349 v348
  let v356 : BitVec 32 := Scalar.select v354 v355 v349
  let c1_i32_258 : BitVec 32 := 1#32
  let v358 : BitVec 32 := Scalar.muli v356 c1_i32_258
  let v359 : BitVec 32 := Scalar.addi c0_i32_259 v358
  v359.toNat
def k0_dev24 (d0 : Dev nD) : Nat :=
  let c0_i32_275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_263 : BitVec 32 := 9#32
  let v367 : BitVec 32 := Scalar.addi v2 c9_i32_263
  let c16_i32_264 : BitVec 32 := 16#32
  let c0_i32_265 : BitVec 32 := 0#32
  let v368 : BitVec 1 := Scalar.cmpi .eq c16_i32_264 c0_i32_265
  let c1_i32_266 : BitVec 32 := 1#32
  let v369 : BitVec 32 := Scalar.select v368 c1_i32_266 c16_i32_264
  let v370 : BitVec 32 := Scalar.remsi v367 v369
  let c0_i32_268 : BitVec 32 := 0#32
  let v372 : BitVec 1 := Scalar.cmpi .slt v370 c0_i32_268
  let c0_i32_269 : BitVec 32 := 0#32
  let v373 : BitVec 1 := Scalar.cmpi .slt v369 c0_i32_269
  let v374 : BitVec 1 := Scalar.xori v372 v373
  let c0_i32_267 : BitVec 32 := 0#32
  let v371 : BitVec 1 := Scalar.cmpi .ne v370 c0_i32_267
  let v375 : BitVec 1 := Scalar.andi v374 v371
  let v376 : BitVec 32 := Scalar.addi v370 v369
  let v377 : BitVec 32 := Scalar.select v375 v376 v370
  let c1_i32_274 : BitVec 32 := 1#32
  let v379 : BitVec 32 := Scalar.muli v377 c1_i32_274
  let v380 : BitVec 32 := Scalar.addi c0_i32_275 v379
  v380.toNat
def k0_dev25 (d0 : Dev nD) : Nat :=
  let c0_i32_291 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_279 : BitVec 32 := 10#32
  let v388 : BitVec 32 := Scalar.addi v2 c10_i32_279
  let c16_i32_280 : BitVec 32 := 16#32
  let c0_i32_281 : BitVec 32 := 0#32
  let v389 : BitVec 1 := Scalar.cmpi .eq c16_i32_280 c0_i32_281
  let c1_i32_282 : BitVec 32 := 1#32
  let v390 : BitVec 32 := Scalar.select v389 c1_i32_282 c16_i32_280
  let v391 : BitVec 32 := Scalar.remsi v388 v390
  let c0_i32_284 : BitVec 32 := 0#32
  let v393 : BitVec 1 := Scalar.cmpi .slt v391 c0_i32_284
  let c0_i32_285 : BitVec 32 := 0#32
  let v394 : BitVec 1 := Scalar.cmpi .slt v390 c0_i32_285
  let v395 : BitVec 1 := Scalar.xori v393 v394
  let c0_i32_283 : BitVec 32 := 0#32
  let v392 : BitVec 1 := Scalar.cmpi .ne v391 c0_i32_283
  let v396 : BitVec 1 := Scalar.andi v395 v392
  let v397 : BitVec 32 := Scalar.addi v391 v390
  let v398 : BitVec 32 := Scalar.select v396 v397 v391
  let c1_i32_290 : BitVec 32 := 1#32
  let v400 : BitVec 32 := Scalar.muli v398 c1_i32_290
  let v401 : BitVec 32 := Scalar.addi c0_i32_291 v400
  v401.toNat
def k0_dev26 (d0 : Dev nD) : Nat :=
  let c0_i32_307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_295 : BitVec 32 := 11#32
  let v409 : BitVec 32 := Scalar.addi v2 c11_i32_295
  let c16_i32_296 : BitVec 32 := 16#32
  let c0_i32_297 : BitVec 32 := 0#32
  let v410 : BitVec 1 := Scalar.cmpi .eq c16_i32_296 c0_i32_297
  let c1_i32_298 : BitVec 32 := 1#32
  let v411 : BitVec 32 := Scalar.select v410 c1_i32_298 c16_i32_296
  let v412 : BitVec 32 := Scalar.remsi v409 v411
  let c0_i32_300 : BitVec 32 := 0#32
  let v414 : BitVec 1 := Scalar.cmpi .slt v412 c0_i32_300
  let c0_i32_301 : BitVec 32 := 0#32
  let v415 : BitVec 1 := Scalar.cmpi .slt v411 c0_i32_301
  let v416 : BitVec 1 := Scalar.xori v414 v415
  let c0_i32_299 : BitVec 32 := 0#32
  let v413 : BitVec 1 := Scalar.cmpi .ne v412 c0_i32_299
  let v417 : BitVec 1 := Scalar.andi v416 v413
  let v418 : BitVec 32 := Scalar.addi v412 v411
  let v419 : BitVec 32 := Scalar.select v417 v418 v412
  let c1_i32_306 : BitVec 32 := 1#32
  let v421 : BitVec 32 := Scalar.muli v419 c1_i32_306
  let v422 : BitVec 32 := Scalar.addi c0_i32_307 v421
  v422.toNat
def k0_dev27 (d0 : Dev nD) : Nat :=
  let c0_i32_323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_311 : BitVec 32 := 12#32
  let v430 : BitVec 32 := Scalar.addi v2 c12_i32_311
  let c16_i32_312 : BitVec 32 := 16#32
  let c0_i32_313 : BitVec 32 := 0#32
  let v431 : BitVec 1 := Scalar.cmpi .eq c16_i32_312 c0_i32_313
  let c1_i32_314 : BitVec 32 := 1#32
  let v432 : BitVec 32 := Scalar.select v431 c1_i32_314 c16_i32_312
  let v433 : BitVec 32 := Scalar.remsi v430 v432
  let c0_i32_316 : BitVec 32 := 0#32
  let v435 : BitVec 1 := Scalar.cmpi .slt v433 c0_i32_316
  let c0_i32_317 : BitVec 32 := 0#32
  let v436 : BitVec 1 := Scalar.cmpi .slt v432 c0_i32_317
  let v437 : BitVec 1 := Scalar.xori v435 v436
  let c0_i32_315 : BitVec 32 := 0#32
  let v434 : BitVec 1 := Scalar.cmpi .ne v433 c0_i32_315
  let v438 : BitVec 1 := Scalar.andi v437 v434
  let v439 : BitVec 32 := Scalar.addi v433 v432
  let v440 : BitVec 32 := Scalar.select v438 v439 v433
  let c1_i32_322 : BitVec 32 := 1#32
  let v442 : BitVec 32 := Scalar.muli v440 c1_i32_322
  let v443 : BitVec 32 := Scalar.addi c0_i32_323 v442
  v443.toNat
def k0_dev28 (d0 : Dev nD) : Nat :=
  let c0_i32_339 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_327 : BitVec 32 := 13#32
  let v451 : BitVec 32 := Scalar.addi v2 c13_i32_327
  let c16_i32_328 : BitVec 32 := 16#32
  let c0_i32_329 : BitVec 32 := 0#32
  let v452 : BitVec 1 := Scalar.cmpi .eq c16_i32_328 c0_i32_329
  let c1_i32_330 : BitVec 32 := 1#32
  let v453 : BitVec 32 := Scalar.select v452 c1_i32_330 c16_i32_328
  let v454 : BitVec 32 := Scalar.remsi v451 v453
  let c0_i32_332 : BitVec 32 := 0#32
  let v456 : BitVec 1 := Scalar.cmpi .slt v454 c0_i32_332
  let c0_i32_333 : BitVec 32 := 0#32
  let v457 : BitVec 1 := Scalar.cmpi .slt v453 c0_i32_333
  let v458 : BitVec 1 := Scalar.xori v456 v457
  let c0_i32_331 : BitVec 32 := 0#32
  let v455 : BitVec 1 := Scalar.cmpi .ne v454 c0_i32_331
  let v459 : BitVec 1 := Scalar.andi v458 v455
  let v460 : BitVec 32 := Scalar.addi v454 v453
  let v461 : BitVec 32 := Scalar.select v459 v460 v454
  let c1_i32_338 : BitVec 32 := 1#32
  let v463 : BitVec 32 := Scalar.muli v461 c1_i32_338
  let v464 : BitVec 32 := Scalar.addi c0_i32_339 v463
  v464.toNat
def k0_dev29 (d0 : Dev nD) : Nat :=
  let c0_i32_355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_343 : BitVec 32 := 14#32
  let v472 : BitVec 32 := Scalar.addi v2 c14_i32_343
  let c16_i32_344 : BitVec 32 := 16#32
  let c0_i32_345 : BitVec 32 := 0#32
  let v473 : BitVec 1 := Scalar.cmpi .eq c16_i32_344 c0_i32_345
  let c1_i32_346 : BitVec 32 := 1#32
  let v474 : BitVec 32 := Scalar.select v473 c1_i32_346 c16_i32_344
  let v475 : BitVec 32 := Scalar.remsi v472 v474
  let c0_i32_348 : BitVec 32 := 0#32
  let v477 : BitVec 1 := Scalar.cmpi .slt v475 c0_i32_348
  let c0_i32_349 : BitVec 32 := 0#32
  let v478 : BitVec 1 := Scalar.cmpi .slt v474 c0_i32_349
  let v479 : BitVec 1 := Scalar.xori v477 v478
  let c0_i32_347 : BitVec 32 := 0#32
  let v476 : BitVec 1 := Scalar.cmpi .ne v475 c0_i32_347
  let v480 : BitVec 1 := Scalar.andi v479 v476
  let v481 : BitVec 32 := Scalar.addi v475 v474
  let v482 : BitVec 32 := Scalar.select v480 v481 v475
  let c1_i32_354 : BitVec 32 := 1#32
  let v484 : BitVec 32 := Scalar.muli v482 c1_i32_354
  let v485 : BitVec 32 := Scalar.addi c0_i32_355 v484
  v485.toNat
def k0_dev30 (d0 : Dev nD) : Nat :=
  let c0_i32_371 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_359 : BitVec 32 := 15#32
  let v493 : BitVec 32 := Scalar.addi v2 c15_i32_359
  let c16_i32_360 : BitVec 32 := 16#32
  let c0_i32_361 : BitVec 32 := 0#32
  let v494 : BitVec 1 := Scalar.cmpi .eq c16_i32_360 c0_i32_361
  let c1_i32_362 : BitVec 32 := 1#32
  let v495 : BitVec 32 := Scalar.select v494 c1_i32_362 c16_i32_360
  let v496 : BitVec 32 := Scalar.remsi v493 v495
  let c0_i32_364 : BitVec 32 := 0#32
  let v498 : BitVec 1 := Scalar.cmpi .slt v496 c0_i32_364
  let c0_i32_365 : BitVec 32 := 0#32
  let v499 : BitVec 1 := Scalar.cmpi .slt v495 c0_i32_365
  let v500 : BitVec 1 := Scalar.xori v498 v499
  let c0_i32_363 : BitVec 32 := 0#32
  let v497 : BitVec 1 := Scalar.cmpi .ne v496 c0_i32_363
  let v501 : BitVec 1 := Scalar.andi v500 v497
  let v502 : BitVec 32 := Scalar.addi v496 v495
  let v503 : BitVec 32 := Scalar.select v501 v502 v496
  let c1_i32_370 : BitVec 32 := 1#32
  let v505 : BitVec 32 := Scalar.muli v503 c1_i32_370
  let v506 : BitVec 32 := Scalar.addi c0_i32_371 v505
  v506.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_375 : BitVec 32 := 256#32
  let v514 : BitVec 32 := Scalar.muli v2 c256_i32_375
  let v515 : Index := Scalar.indexCast v514
  let c0 : Index := 0#32
  ![v515.toNat, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_376 : BitVec 32 := 256#32
  let v518 : BitVec 32 := Scalar.muli v2 c256_i32_376
  let v519 : Index := Scalar.indexCast v518
  let c0_377 : Index := 0#32
  ![v519.toNat, 0]
def k0_off4 (d0 : Dev nD) (c1_i32_380 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v524 : BitVec 32 := Scalar.subi v2 c1_i32_380
  let c16_i32_381 : BitVec 32 := 16#32
  let c0_i32_382 : BitVec 32 := 0#32
  let v525 : BitVec 1 := Scalar.cmpi .eq c16_i32_381 c0_i32_382
  let c1_i32_383 : BitVec 32 := 1#32
  let v526 : BitVec 32 := Scalar.select v525 c1_i32_383 c16_i32_381
  let v527 : BitVec 32 := Scalar.remsi v524 v526
  let c0_i32_385 : BitVec 32 := 0#32
  let v529 : BitVec 1 := Scalar.cmpi .slt v527 c0_i32_385
  let c0_i32_386 : BitVec 32 := 0#32
  let v530 : BitVec 1 := Scalar.cmpi .slt v526 c0_i32_386
  let v531 : BitVec 1 := Scalar.xori v529 v530
  let c0_i32_384 : BitVec 32 := 0#32
  let v528 : BitVec 1 := Scalar.cmpi .ne v527 c0_i32_384
  let v532 : BitVec 1 := Scalar.andi v531 v528
  let v533 : BitVec 32 := Scalar.addi v527 v526
  let v534 : BitVec 32 := Scalar.select v532 v533 v527
  let c256_i32_401 : BitVec 32 := 256#32
  let v547 : BitVec 32 := Scalar.muli v534 c256_i32_401
  let v548 : Index := Scalar.indexCast v547
  let c0_402 : Index := 0#32
  ![v548.toNat, 0]
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== UnclippedIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Base.lean ====
/- The vocabulary of the exchange: devices at an offset round the ring of sixteen, the pieces of the buffers
   that a copy reads and writes, the semaphore cells, and what each piece holds. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: one copy for the staging pipeline, one for the exchange (duties named by offsets) -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Offsets round the mesh -/

/-- The device `d` places after `c`. -/
def dst (c : Dev nD) (d : Fin 16) : Dev nD := (c : Fin 16) + d
/-- The device `d` places before `c`. -/
def frm (c : Dev nD) (d : Fin 16) : Dev nD := (c : Fin 16) - d

theorem dst_frm (c : Dev nD) (d : Fin 16) : dst (frm c d) d = c := by revert c d; decide
theorem frm_dst (c : Dev nD) (d : Fin 16) : frm (dst c d) d = c := by revert c d; decide

/-- Moving by a fixed offset is a permutation of the devices. -/
def shift (d : Fin 16) : Dev nD ≃ Dev nD := ⟨fun c => dst c d, fun c => frm c d, fun c => frm_dst c d, fun c => dst_frm c d⟩

/-- The offsets a device sends at, in the order it sends. -/
abbrev offs : List (Fin 16) := [1, 2, 3, 4, 5, 6, 7, 8, 9, 10, 11, 12, 13, 14, 15]
/-- The same in the order in which a device opens its slots to the senders. -/
abbrev offsRev : List (Fin 16) := [15, 14, 13, 12, 11, 10, 9, 8, 7, 6, 5, 4, 3, 2, 1]

/-! ## The memrefs -/

abbrev xM : Memref sig .tc .vmem S4096x256 .f32 := Memref.whole cc0_stg0_0
abbrev wM : Memref sig .tc .vmem S4096x2048 .f32 := Memref.whole cc0_stg1_0
abbrev oM : Memref sig .tc .vmem S256x2048 .f32 := Memref.whole cc0_stg2_0
abbrev rM : Memref sig .tc .vmem S16x256x256 .f32 := Memref.whole cc0_scratch0

theorem slot_inb (d : Fin 16) : ∀ a, (![d.val, 0, 0] : Fin 3 → Nat) a + S1x256x256.size a ≤ S16x256x256.size a := by
  revert d; decide
theorem sem_inb (d : Fin 16) : ∀ a, (![d.val] : Fin 1 → Nat) a + S1.size a ≤ S16.size a := by revert d; decide
theorem xoff_eq : ∀ (c : Dev nD) (d : Fin 16), k0_off1 c (BitVec.ofNat 32 d.val) = ![256 * (dst c d).val, 0] := by decide +kernel
theorem woff_eq : ∀ (c : Dev nD) (d : Fin 16), k0_off4 c (BitVec.ofNat 32 d.val) = ![256 * (frm c d).val, 0] := by decide +kernel
theorem xrow_inb : ∀ (b : Dev nD), ∀ a, (![256 * b.val, 0] : Fin 2 → Nat) a + S256x256.size a ≤ S4096x256.size a := by decide
theorem wrow_inb : ∀ (b : Dev nD), ∀ a, (![256 * b.val, 0] : Fin 2 → Nat) a + S256x2048.size a ≤ S4096x2048.size a := by decide
theorem xsl_inb (c : Dev nD) (d : Fin 16) : ∀ a, (k0_off1 c (BitVec.ofNat 32 d.val)) a + S256x256.size a ≤ S4096x256.size a := by
  rw [xoff_eq]; exact xrow_inb _
theorem wsl_inb (c : Dev nD) (d : Fin 16) : ∀ a, (k0_off4 c (BitVec.ofNat 32 d.val)) a + S256x2048.size a ≤ S4096x2048.size a := by
  rw [woff_eq]; exact wrow_inb _

/-- The box of slot `d` in the landing buffer. -/
abbrev slotR (d : Fin 16) : Rect S16x256x256 := Rect.unit (s := S16x256x256) ![d.val, 0, 0] S1x256x256.size (slot_inb d)
/-- Slot `d` of the landing buffer as a square. -/
abbrev slotM (d : Fin 16) : Memref sig .tc .vmem S256x256 .f32 :=
  (rM.slice (slotR d) (fun _ => rfl)).squeeze S256x256 squeezes_S1x256x256_S256x256
/-- The rows of the staged `x` that device `c` sends at offset `d`, as the kernel addresses them. -/
abbrev xSl (c : Dev nD) (d : Fin 16) : Memref sig .tc .vmem S256x256 .f32 :=
  xM.slice (Rect.unit (s := S4096x256) (k0_off1 c (BitVec.ofNat 32 d.val)) S256x256.size (xsl_inb c d)) (fun _ => rfl)
/-- Row block `b` of the staged `x`. -/
abbrev xR (b : Dev nD) : Rect S4096x256 := Rect.unit (s := S4096x256) ![256 * b.val, 0] S256x256.size (xrow_inb b)
abbrev xBM (b : Dev nD) : Memref sig .tc .vmem S256x256 .f32 := xM.slice (xR b) (fun _ => rfl)
/-- Row block `b` of the staged `w`. -/
abbrev wR (b : Dev nD) : Rect S4096x2048 := Rect.unit (s := S4096x2048) ![256 * b.val, 0] S256x2048.size (wrow_inb b)

theorem rect_unit_congr {s : Shape} {o o' size : Fin s.rank → ℕ} (h : o = o') (i i') :
    Rect.unit (s := s) o size i = Rect.unit o' size i' := by subst h; rfl

theorem xSl_eq (c : Dev nD) (d : Fin 16) : xSl c d = xBM (dst c d) := by
  have h : ∀ (o o' : Fin 2 → ℕ) (e : o = o') i i', xM.slice (Rect.unit (s := S4096x256) o S256x256.size i) (fun _ => rfl)
      = xM.slice (Rect.unit (s := S4096x256) o' S256x256.size i') (fun _ => rfl) := fun o o' e i i' => by subst e; rfl
  exact h _ _ (xoff_eq c d) _ _

/-! ## The semaphores and their cells -/

abbrev barS : Sem sig := (SemArray.scalar (sig.barrier 0 rfl) : Sems sig S_).sem
abbrev sendS (d : Fin 16) : DmaSem sig :=
  ((cc0_scratch1.slice (Rect.unit (s := S16) ![d.val] S1.size (sem_inb d))).squeeze S_ squeezes_S1_S_).sem
abbrev recvS (d : Fin 16) : DmaSem sig :=
  ((cc0_scratch2.slice (Rect.unit (s := S16) ![d.val] S1.size (sem_inb d))).squeeze S_ squeezes_S1_S_).sem

theorem sendS_eq : ∀ d : Fin 16, sendS d = (⟨3 + d.val, by have := d.isLt; show _ < 35; omega⟩ : Fin 35) := by decide
theorem recvS_eq : ∀ d : Fin 16, recvS d = (⟨19 + d.val, by have := d.isLt; show _ < 35; omega⟩ : Fin 35) := by decide

abbrev barCell (c : Dev nD) : GSem nD τ sig := ((c : Thread nD τ), .reg barS)
abbrev sendCell (c : Dev nD) (d : Fin 16) : GSem nD τ sig := ((c : Thread nD τ), .dma (sendS d))
abbrev recvCell (c : Dev nD) (d : Fin 16) : GSem nD τ sig := ((c : Thread nD τ), .dma (recvS d))

/-- What one copy of a square adds to a semaphore. -/
abbrev N : ℕ := (slotM 1).view.dmaCredit
theorem N_pos : 0 < N := View.dmaCredit_pos _ (by decide)
theorem slot_credit (d : Fin 16) : (slotM d).view.dmaCredit = N := rfl
theorem slot_amount (d d' : Fin 16) : (slotM d).view.amount (.dma (recvS d')) = N := rfl
theorem x_credit (c : Dev nD) (d : Fin 16) : (xSl c d).view.dmaCredit = N := rfl

end Cert.KernelProof

end
-- ==== Proof.Sched.lean ====
/- The exchange's schedule: which device pays which semaphore cell, what each payment hands over, what each
   device owes at launch, and the order in which the cells may be waited on. -/
module

public import proofs.«01_k».proof.Proof.Base

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

/-- The start state of a run: the memory, every counter at zero. -/
def s₀ : MemSt nD τ sig (Elt F) := ⟨m, fun _ => 0, ρ⟩

/-! ## A family held item by item along a list -/

/-- The separating conjunction of a family along a list. -/
def bigL {I : Type} (l : List I) (Φ : I → sProp 𝕄) : sProp 𝕄 := match l with
  | [] => iprop(emp)
  | a :: l => iprop(Φ a ∗ bigL l Φ)

omit [FloatOps F] in
/-- Along a list without repetition it is the conjunction over the list's elements. -/
theorem bigL_eq {I : Type} [DecidableEq I] (l : List I) (h : l.Nodup) (Φ : I → sProp 𝕄) : bigL l Φ = bigSep l.toFinset Φ := by
  induction l with
  | nil => rfl
  | cons a l ih =>
    rw [List.nodup_cons] at h
    rw [List.toFinset_cons, bigSep_insert (fun hm => h.1 (List.mem_toFinset.mp hm)), ← ih h.2]; rfl

theorem offs_set : (Finset.univ.erase 0 : Finset (Fin 16)) = offs.toFinset := by decide
theorem offsRev_set : (Finset.univ.erase 0 : Finset (Fin 16)) = offsRev.toFinset := by decide

omit [FloatOps F] in
theorem bigSep_offs (Φ : Fin 16 → sProp 𝕄) : bigSep (Finset.univ.erase 0) Φ = bigL offs Φ := by
  rw [bigL_eq _ (by decide), offs_set]
omit [FloatOps F] in
theorem bigSep_offsRev (Φ : Fin 16 → sProp 𝕄) : bigSep (Finset.univ.erase 0) Φ = bigL offsRev Φ := by
  rw [bigL_eq _ (by decide), offsRev_set]
omit [FloatOps F] in
/-- Over all offsets: the offset zero and the rest. -/
theorem bigSep_off0 (Φ : Fin 16 → sProp 𝕄) : bigSep Finset.univ Φ = iprop(Φ 0 ∗ bigSep (Finset.univ.erase 0) Φ) :=
  bigSep_univ_at Φ 0

/-! ## What the staged buffers hold, and the pieces held -/

/-- Device `c`'s columns of `x`, as staged. -/
def xstg (c : Dev nD) : (cc0_stg0_0 : Ref sig .tc).ty.Contents (Elt F) :=
  (win0_0.blk (0 : Fin 1)).view.read (Elt F) ((s₀ m ρ).mem ((c : Thread nD τ).loc main_arg0))
/-- Device `c`'s `w`, as staged. -/
def wstg (c : Dev nD) : (cc0_stg1_0 : Ref sig .tc).ty.Contents (Elt F) :=
  (win0_1.blk (0 : Fin 1)).view.read (Elt F) ((s₀ m ρ).mem ((c : Thread nD τ).loc main_arg1))

/-- Row block `b` of device `s`'s columns of `x`: the piece device `s` contributes to device `b`. -/
def xval (s b : Dev nD) : Vec F S256x256 .f32 := (xBM b).view.read (Elt F) (xstg m ρ s)

/-- Row block `b` of device `c`'s staged `x`, held. -/
def xBlk (c b : Dev nD) : sProp 𝕄 := (xBM b).view.loc (c : Thread nD τ) ↦[(xBM b).view.set]{fullShare} xstg m ρ c
/-- Slot `d` of device `c`'s landing buffer, held at contents `f`. -/
def slotAt (c : Dev nD) (d : Fin 16) (f : Buf (Elt F) ((slotM d).view.loc (c : Thread nD τ))) : sProp 𝕄 :=
  (slotM d).view.loc (c : Thread nD τ) ↦[(slotM d).view.set]{fullShare} f
/-- The same at some contents. -/
def slotAny (c : Dev nD) (d : Fin 16) : sProp 𝕄 := iprop(∃ f, slotAt (F := F) c d f)
/-- The same holding the piece that the device `d` places before contributes. -/
def slotGot (c : Dev nD) (d : Fin 16) : sProp 𝕄 :=
  iprop(∃ f, ⌜(slotM d).view.read (Elt F) f = xval m ρ (frm c d) c⌝ ∗ slotAt (F := F) c d f)

omit [FloatOps F] in
instance xBlk_storable (c b : Dev nD) : BI.Storable (upEmb : UEmb _ 𝕄) (xBlk (F := F) m ρ c b) := by unfold xBlk; infer_instance
omit [FloatOps F] in
instance slotAt_storable (c : Dev nD) (d) (f) : BI.Storable (upEmb : UEmb _ 𝕄) (slotAt (F := F) c d f) := by unfold slotAt; infer_instance
omit [FloatOps F] in
instance slotAny_storable (c : Dev nD) (d) : BI.Storable (upEmb : UEmb _ 𝕄) (slotAny (F := F) c d) := by unfold slotAny; infer_instance
omit [FloatOps F] in
instance slotGot_storable (c : Dev nD) (d) : BI.Storable (upEmb : UEmb _ 𝕄) (slotGot (F := F) m ρ c d) := by unfold slotGot; infer_instance

/-! ## The schedule -/

/-- The copy semaphores by role: `(false, d)` the send semaphore of offset `d`, `(true, d)` the receive semaphore. -/
def role (q : DmaSem sig) : Option (Bool × Fin 16) :=
  if q.val < 3 then none
  else if q.val < 19 then some (false, Fin.ofNat 16 (q.val - 3))
  else some (true, Fin.ofNat 16 (q.val - 19))

theorem role_send : ∀ d : Fin 16, role (sendS d) = some (false, d) := by decide
theorem role_recv : ∀ d : Fin 16, role (recvS d) = some (true, d) := by decide

/-- The duties of a cell: a barrier cell has one per nonzero offset, a copy's cell of nonzero offset has one. -/
def dutiesOf : SemLoc sig → Finset (Fin 16)
  | .reg _ => Finset.univ.erase 0
  | .dma q => match role q with
    | some (_, d) => if d = 0 then ∅ else {0}
    | none => ∅

/-- What a duty's payment hands device `c`. A barrier's duty `d` is paid by the device `d` places after, with its own
    slot `d`; a send's gives the sent rows back; a receive's gives the slot with the arrived rows. -/
def payOf (c : Dev nD) (d : Fin 16) : SemLoc sig → sProp 𝕄
  | .reg _ => slotAny (F := F) (dst c d) d
  | .dma q => match role q with
    | some (false, e) => xBlk m ρ c (dst c e)
    | some (true, e) => slotGot m ρ c e
    | none => iprop(emp)

/-- The exchange's schedule: one round, round 0. -/
def rd : Rounds.Schedule (GSem nD τ sig) (Fin 16) 𝕄 where
  duties g r := if r = 0 ∧ g.1.2 = .tc then dutiesOf g.2 else ∅
  unitless _ := False
  amount g _ _ := if g.2 = .reg barS then 1 else N
  payload g _ d := payOf m ρ g.1.1 d g.2
  amount_pos g _ _ _ := by
    by_cases h : g.2 = .reg barS
    · rw [if_pos h]; exact Nat.one_pos
    · rw [if_neg h]; exact N_pos

instance rd_payload_storable (g : GSem nD τ sig) (r : ℕ) (d : Fin 16) :
    BI.Storable (upEmb : UEmb _ 𝕄) ((rd (F := F) m ρ).payload g r d) := by
  show BI.Storable upEmb (payOf m ρ g.1.1 d g.2)
  unfold payOf
  (repeat' split) <;> infer_instance

section Tables
variable (c : Dev nD) (d : Fin 16)

theorem dma_ne_bar (q : DmaSem sig) : (SemLoc.dma q : SemLoc sig) ≠ .reg barS := fun h => by cases h

omit [FloatOps F] in
theorem duties_bar : (rd (F := F) m ρ).duties (barCell c) 0 = Finset.univ.erase 0 := by dsimp only [rd]; exact if_pos ⟨rfl, rfl⟩
omit [FloatOps F] in
theorem duties_send (hd : d ≠ 0) : (rd (F := F) m ρ).duties (sendCell c d) 0 = {0} := by
  dsimp only [rd]; rw [if_pos ⟨rfl, rfl⟩]; dsimp only [dutiesOf]; rw [role_send]; exact if_neg hd
omit [FloatOps F] in
theorem duties_recv (hd : d ≠ 0) : (rd (F := F) m ρ).duties (recvCell c d) 0 = {0} := by
  dsimp only [rd]; rw [if_pos ⟨rfl, rfl⟩]; dsimp only [dutiesOf]; rw [role_recv]; exact if_neg hd
omit [FloatOps F] in
theorem duties_send0 : (rd (F := F) m ρ).duties (sendCell c 0) 0 = ∅ := by
  dsimp only [rd]; rw [if_pos ⟨rfl, rfl⟩]; dsimp only [dutiesOf]; rw [role_send]; exact if_pos rfl
omit [FloatOps F] in
theorem duties_recv0 : (rd (F := F) m ρ).duties (recvCell c 0) 0 = ∅ := by
  dsimp only [rd]; rw [if_pos ⟨rfl, rfl⟩]; dsimp only [dutiesOf]; rw [role_recv]; exact if_pos rfl
omit [FloatOps F] in
theorem duties_later (g : GSem nD τ sig) : ∀ r, 1 ≤ r → (rd (F := F) m ρ).duties g r = ∅ :=
  fun r hr => by dsimp only [rd]; rw [if_neg fun h => by omega]
omit [FloatOps F] in
theorem duties_send0_all : ∀ r, 0 ≤ r → (rd (F := F) m ρ).duties (sendCell c 0) r = ∅ := fun r _ => by
  rcases Nat.eq_zero_or_pos r with rfl | h
  · exact duties_send0 m ρ c
  · exact duties_later m ρ _ r h
omit [FloatOps F] in
theorem duties_recv0_all : ∀ r, 0 ≤ r → (rd (F := F) m ρ).duties (recvCell c 0) r = ∅ := fun r _ => by
  rcases Nat.eq_zero_or_pos r with rfl | h
  · exact duties_recv0 m ρ c
  · exact duties_later m ρ _ r h

omit [FloatOps F] in
theorem amount_bar (e : Fin 16) : (rd (F := F) m ρ).amount (barCell c) 0 e = 1 := by dsimp only [rd]; exact if_pos rfl
omit [FloatOps F] in
theorem amount_dma (q : DmaSem sig) (e : Fin 16) : (rd (F := F) m ρ).amount ((c : Thread nD τ), .dma q) 0 e = N := by
  dsimp only [rd]; exact if_neg (dma_ne_bar q)

omit [FloatOps F] in
theorem expect_bar : (rd (F := F) m ρ).expect (barCell c) 0 = 15 := by
  unfold Schedule.expect Schedule.amountOf
  rw [duties_bar, Finset.sum_congr rfl fun e _ => amount_bar m ρ c e, Finset.sum_const, Finset.card_erase_of_mem (Finset.mem_univ _),
    Finset.card_univ, Fintype.card_fin, smul_eq_mul]
omit [FloatOps F] in
theorem expect_send (hd : d ≠ 0) : (rd (F := F) m ρ).expect (sendCell c d) 0 = N := by
  unfold Schedule.expect Schedule.amountOf; rw [duties_send m ρ c d hd, Finset.sum_singleton, amount_dma]
omit [FloatOps F] in
theorem expect_recv (hd : d ≠ 0) : (rd (F := F) m ρ).expect (recvCell c d) 0 = N := by
  unfold Schedule.expect Schedule.amountOf; rw [duties_recv m ρ c d hd, Finset.sum_singleton, amount_dma]

omit [FloatOps F] in
theorem payload_bar : (rd (F := F) m ρ).payload (barCell c) 0 d = slotAny (dst c d) d := rfl
omit [FloatOps F] in
theorem payload_send (e : Fin 16) : (rd (F := F) m ρ).payload (sendCell c d) 0 e = xBlk m ρ c (dst c d) := by
  dsimp only [rd, payOf]; rw [role_send]
omit [FloatOps F] in
theorem payload_recv (e : Fin 16) : (rd (F := F) m ρ).payload (recvCell c d) 0 e = slotGot m ρ c d := by
  dsimp only [rd, payOf]; rw [role_recv]

omit [FloatOps F] in
/-- A whole barrier round hands over slot `d` of the device `d` places after, for every nonzero `d`. -/
theorem rest_bar : bigSep ((rd (F := F) m ρ).duties (barCell c) 0 \ ∅) (fun e => (rd (F := F) m ρ).payload (barCell c) 0 e)
    = bigSep (Finset.univ.erase 0) fun e => slotAny (F := F) (dst c e) e := by
  rw [Finset.sdiff_empty, duties_bar]; rfl
omit [FloatOps F] in
theorem rest_send (hd : d ≠ 0) : bigSep ((rd (F := F) m ρ).duties (sendCell c d) 0 \ ∅) (fun e => (rd (F := F) m ρ).payload (sendCell c d) 0 e)
    = xBlk m ρ c (dst c d) := by
  rw [Finset.sdiff_empty, duties_send m ρ c d hd, bigSep_singleton, payload_send]
omit [FloatOps F] in
theorem rest_recv (hd : d ≠ 0) : bigSep ((rd (F := F) m ρ).duties (recvCell c d) 0 \ ∅) (fun e => (rd (F := F) m ρ).payload (recvCell c d) 0 e)
    = slotGot m ρ c d := by
  rw [Finset.sdiff_empty, duties_recv m ρ c d hd, bigSep_singleton, payload_recv]

end Tables

/-! ## What each device owes at launch; the levels -/

/-- One unit to the barrier cell of the device `d` places before, for each `d` listed. -/
def oweB (c : Dev nD) : List (Fin 16) → CellTallies nD τ sig Unit
  | [] => 0
  | d :: l => oweB c l + tallyAt (barCell (frm c d)) () 1
/-- One square's credit to the receive cell `d` of the device `d` places after, for each `d` listed. -/
def oweR (c : Dev nD) : List (Fin 16) → CellTallies nD τ sig Unit
  | [] => 0
  | d :: l => oweR c l + tallyAt (recvCell (dst c d) d) () N

def O₀ (c : Dev nD) : CellTallies nD τ sig Unit := oweR c offs + oweB c offsRev

def L (g : GSem nD τ sig) : Finset Unit := if g.1.2 = .tc then {()} else ∅
/-- barrier cells at 1, receive cells at 2, every other cell at 0. -/
def lv (g : GSem nD τ sig) (_ : Unit) : ℕ := match g.2 with
  | .reg _ => 1
  | .dma q => match role q with
    | some (true, _) => 2
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u) : lv (barCell c) u = 1 := rfl
theorem lv_recv (c : Dev nD) (d : Fin 16) (u) : lv (recvCell c d) u = 2 := by dsimp only [lv]; rw [role_recv]

theorem oweR_pos {c : Dev nD} {g : GSem nD τ sig} {u : Unit} : ∀ l, 0 < oweR c l g u → ∃ d, g = recvCell (dst c d) d
  | [], h => absurd h (Nat.lt_irrefl 0)
  | d :: l, h => by
    unfold oweR at h
    rw [Pi.add_apply, Finsupp.add_apply, tallyAt_apply] at h
    by_cases hg : g = recvCell (dst c d) d ∧ u = ()
    · exact ⟨d, hg.1⟩
    · rw [if_neg hg, Nat.add_zero] at h; exact oweR_pos l h
theorem oweB_pos {c : Dev nD} {g : GSem nD τ sig} {u : Unit} : ∀ l, 0 < oweB c l g u → ∃ d, g = barCell (frm c d)
  | [], h => absurd h (Nat.lt_irrefl 0)
  | d :: l, h => by
    unfold oweB at h
    rw [Pi.add_apply, Finsupp.add_apply, tallyAt_apply] at h
    by_cases hg : g = barCell (frm c d) ∧ u = ()
    · exact ⟨d, hg.1⟩
    · rw [if_neg hg, Nat.add_zero] at h; exact oweB_pos l h

theorem O₀_pos {c : Dev nD} {g : GSem nD τ sig} {u : Unit} (h : 0 < O₀ c g u) :
    (∃ d, g = recvCell (dst c d) d) ∨ ∃ d, g = barCell (frm c d) := by
  unfold O₀ at h
  rw [Pi.add_apply, Finsupp.add_apply] at h
  rcases Nat.eq_zero_or_pos (oweR c offs g u) with h0 | h0
  · rw [h0, Nat.zero_add] at h; exact .inr (oweB_pos _ h)
  · exact .inl (oweR_pos _ h0)

omit [FloatOps F] in
/-- A staging semaphore may be waited on whatever the exchange still owes: it sits below every cell of it. -/
theorem mayWait_stage (c : Dev nD) (q : DmaSem sig) (hq : role q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨d, rfl⟩ <;> exact Finset.mem_singleton_self _)
      (fun p hp => by rw [Finset.mem_singleton.mp hp]; dsimp only [lv]; rw [hq])
      (fun g u hg => by
        rcases O₀_pos hg with ⟨d, rfl⟩ | ⟨d, rfl⟩
        · rw [lv_recv]; decide
        · rw [lv_bar]; decide)
  · rw [MayWait_zero]; iintro -; iempintro

omit [FloatOps F] in
/-- At its barrier wait a device owes receive credits only, and those cells sit above the barrier cells. -/
theorem mayWait_bar (c : Dev nD) (l : List (Fin 16)) :
    (levAts L lv : sProp 𝕄) ⊢ MayWait (c : Thread nD τ) (.reg barS) () (oweR c l) :=
  MayOwe.of_cut (L := L) (lev := lv) 1 (fun p hp => by rw [Finset.mem_singleton.mp hp, L_tc]; exact Finset.mem_singleton_self _)
    (fun g u hg => by obtain ⟨d, rfl⟩ := oweR_pos l hg; exact Finset.mem_singleton_self _)
    (fun p hp => by rw [Finset.mem_singleton.mp hp]; exact le_of_eq (lv_bar c _))
    (fun g u hg => by obtain ⟨d, rfl⟩ := oweR_pos l hg; rw [lv_recv]; decide)

/-! ## The cells by number, and the records every device shares -/

/-- The exchange's cells of one device: number 0 its barrier cell, then its sixteen send and its sixteen receive cells. -/
abbrev osem : Fin 32 → SemLoc sig := fun j => .dma (⟨3 + j.val, by have := j.isLt; show _ < 35; omega⟩ : Fin 35)
abbrev csem : Fin 33 → SemLoc sig := fun j => if h : j.val = 0 then .reg barS else .dma (⟨2 + j.val, by have := j.isLt; show _ < 35; omega⟩ : Fin 35)
abbrev kcell (ck : Dev nD × Fin 33) : GSem nD τ sig := ((ck.1 : Thread nD τ), csem ck.2)

abbrev sIx (d : Fin 16) : Fin 33 := ⟨1 + d.val, by have := d.isLt; omega⟩
abbrev rIx (d : Fin 16) : Fin 33 := ⟨17 + d.val, by have := d.isLt; omega⟩

theorem csem_send : ∀ d : Fin 16, csem (sIx d) = .dma (sendS d) := by decide
theorem csem_recv : ∀ d : Fin 16, csem (rIx d) = .dma (recvS d) := by decide
theorem kcell_bar (c : Dev nD) : kcell (c, 0) = barCell c := rfl
theorem kcell_send (c : Dev nD) (d : Fin 16) : kcell (c, sIx d) = sendCell c d := by unfold kcell; dsimp only; rw [csem_send]
theorem kcell_recv (c : Dev nD) (d : Fin 16) : kcell (c, rIx d) = recvCell c d := by unfold kcell; dsimp only; rw [csem_recv]

/-- The invariant of every cell at its name, the mark that every cell has reached round 0, and the levels. -/
def recs (K : Dev nD × Fin 33 → ℕ) : sProp 𝕄 :=
  iprop((bigSep Finset.univ fun ck : Dev nD × Fin 33 => cellInv ER (rd m ρ) (K ck) (kcell ck))
    ∗ (bigSep Finset.univ fun ck : Dev nD × Fin 33 => reached ER (kcell ck) 0) ∗ levAts L lv)

instance recs_persistent (K : Dev nD × Fin 33 → ℕ) : BI.Persistent (recs (F := F) m ρ K) := by unfold recs; infer_instance

omit [FloatOps F] in
theorem inv_at (K : Dev nD × Fin 33 → ℕ) (ck : Dev nD × Fin 33) (g : GSem nD τ sig) (hg : kcell ck = g) :
    recs (F := F) m ρ K ⊢ cellInv ER (rd m ρ) (K ck) g := by
  subst hg; unfold recs
  have h : (bigSep Finset.univ fun ck : Dev nD × Fin 33 => (cellInv ER (rd m ρ) (K ck) (kcell ck) : sProp 𝕄)) ⊢ cellInv ER (rd m ρ) (K ck) (kcell ck) :=
    bigSep_elim (Finset.mem_univ ck)
  iintro ⟨H, -, -⟩
  iapply h; iexact H
omit [FloatOps F] in
theorem reached_at (K : Dev nD × Fin 33 → ℕ) (ck : Dev nD × Fin 33) (g : GSem nD τ sig) (hg : kcell ck = g) :
    recs (F := F) m ρ K ⊢ reached ER g 0 := by
  subst hg; unfold recs
  have h : (bigSep Finset.univ fun ck : Dev nD × Fin 33 => (reached ER (kcell ck) 0 : sProp 𝕄)) ⊢ reached ER (kcell ck) 0 :=
    bigSep_elim (Finset.mem_univ ck)
  iintro ⟨-, H, -⟩
  iapply h; iexact H
omit [FloatOps F] in
theorem lev_at (K : Dev nD × Fin 33 → ℕ) : recs (F := F) m ρ K ⊢ levAts L lv := by
  unfold recs; iintro ⟨-, -, H⟩; iexact H

end Cert.KernelProof

end
-- ==== Proof.Geom.lean ====
/- The buffers cut in pieces: the staged `x` in its sixteen row blocks, the landing buffer in its sixteen slots; and
   what each read of a piece gives. -/
module

public import proofs.«01_k».proof.Proof.Sched

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

/-! ## The pieces of the staged `x` -/

theorem xB_set (b : Dev nD) : (xBM b).view.set = (xR b).set := View.set_slice_whole _ _

theorem xR_disjoint (b b' : Dev nD) (h : b ≠ b') : Disjoint (xR b).set (xR b').set :=
  Ring.lead_disjoint (NB := 16) (s := S4096x256) 0 256 (fun b => ![256 * b.val, 0]) S256x256.size xrow_inb (fun _ => rfl) rfl b b' h
theorem xR_cover : Finset.univ.biUnion (fun b : Dev nD => (xR b).set) = Finset.univ :=
  Ring.lead_cover (NB := 16) (s := S4096x256) 0 256 (fun b => ![256 * b.val, 0]) S256x256.size xrow_inb (fun _ => rfl)
    (by decide) rfl (by decide) rfl

/-- Offsets name devices: seen from `c`, offset `d` is the device `d` places after. -/
def offEquiv (c : Dev nD) : Fin 16 ≃ Dev nD :=
  ⟨fun d => dst c d, fun b => (b : Fin 16) - c, fun d => by revert c d; decide, fun b => by revert c b; decide⟩

omit [FloatOps F] in
/-- The staged `x` held whole is its sixteen row blocks held, listed by offset. -/
theorem x_split (c : Dev nD) : (((c : Thread nD τ).loc cc0_stg0_0) ↦{fullShare} xstg m ρ c : sProp 𝕄)
    = bigSep Finset.univ fun d : Fin 16 => xBlk m ρ c (dst c d) := by
  refine (Ring.pointsTo_blocks (ℓ := (c : Thread nD τ).loc cc0_stg0_0) (fun b : Dev nD => (xR b).set) xR_disjoint xR_cover (xstg m ρ c)).trans ?_
  rw [bigSep_univ_equiv (offEquiv c)]
  exact bigSep_congr fun d _ => by unfold xBlk; rw [xB_set]; rfl

/-! ## The slots of the landing buffer -/

theorem slot_set (d : Fin 16) : (slotM d).view.set = (slotR d).set := by
  show ((rM.slice (slotR d) (fun _ => rfl)).view.reshape _ _).set = _
  rw [View.set_reshape]; exact View.set_slice_whole _ _

theorem slotR_disjoint (d d' : Fin 16) (h : d ≠ d') : Disjoint (slotR d).set (slotR d').set :=
  Ring.lead_disjoint (NB := 16) (s := S16x256x256) 0 1 (fun d => ![d.val, 0, 0]) S1x256x256.size slot_inb (fun b => (Nat.one_mul _).symm) rfl d d' h
theorem slotR_cover : Finset.univ.biUnion (fun d : Fin 16 => (slotR d).set) = Finset.univ :=
  Ring.lead_cover (NB := 16) (s := S16x256x256) 0 1 (fun d => ![d.val, 0, 0]) S1x256x256.size slot_inb (fun b => (Nat.one_mul _).symm)
    (by decide) rfl (by decide) rfl

omit [FloatOps F] in
/-- The landing buffer held whole is its sixteen slots held. -/
theorem slot_split (c : Dev nD) (f : Buf (Elt F) ((c : Thread nD τ).loc cc0_scratch0)) :
    (((c : Thread nD τ).loc cc0_scratch0) ↦{fullShare} f : sProp 𝕄) = bigSep Finset.univ fun d : Fin 16 => slotAt (F := F) c d f := by
  rw [Ring.pointsTo_blocks (fun d : Fin 16 => (slotR d).set) slotR_disjoint slotR_cover f]
  exact bigSep_congr fun d _ => by unfold slotAt; rw [slot_set]

omit [FloatOps F] in
/-- The slots at any contents join to the landing buffer at some contents. -/
theorem slot_join [∀ e, Nonempty (Elt F e)] (c : Dev nD) :
    (bigSep Finset.univ fun d : Fin 16 => slotAny (F := F) c d) ⊢ (iprop(∃ g, ((c : Thread nD τ).loc cc0_scratch0) ↦{fullShare} g) : sProp 𝕄) := by
  have f₀ : Buf (Elt F) ((c : Thread nD τ).loc cc0_scratch0) := fun _ => Classical.choice inferInstance
  refine (Entails.of_eq (bigSep_congr fun d _ => ?_)).trans
    (Ring.pointsTo_blocks_join_exists (ℓ := (c : Thread nD τ).loc cc0_scratch0) (fun d : Fin 16 => (slotR d).set) slotR_disjoint slotR_cover f₀)
  unfold slotAny slotAt; rw [slot_set]

/-! ## What the reads give -/

/-- Row block `b` of device `c`'s `w`. -/
def wval (c b : Dev nD) : Vec F S256x2048 .f32 := (wM : Memref sig .tc .vmem S4096x2048 .f32).view.readAt (Elt F) (wR b).toLoadRect (wstg m ρ c)

theorem hz : (![0, 0] : Fin 2 → Nat) = fun _ => 0 := funext fun a => by fin_cases a <;> rfl

abbrev rO : Rect S256x2048 := Rect.unit (s := S256x2048) ![0, 0] S256x2048.size inb_S256x2048_S256x2048_0_0

omit [FloatOps F] in
theorem read_o (f : (cc0_stg2_0 : Ref sig .tc).ty.Contents (Elt F)) : (oM : Memref sig .tc .vmem S256x2048 .f32).view.readAt (Elt F) rO.toLoadRect f = f :=
  Memref.readAt_unit_zero (Elt F) cc0_stg2_0 hz _ f
omit [FloatOps F] in
theorem write_o (f w : (cc0_stg2_0 : Ref sig .tc).ty.Contents (Elt F)) :
    ((oM : Memref sig .tc .vmem S256x2048 .f32).access rO : View sig .tc _ _ _).write (Elt F) f w Finset.univ = w :=
  Memref.write_access_unit_zero_univ (Elt F) cc0_stg2_0 hz _ f w

omit [FloatOps F] in
/-- Loading a slot's box and dropping the unit axis is reading the slot as a square. -/
theorem read_slot (d : Fin 16) (f : (cc0_scratch0 : Ref sig .tc).ty.Contents (Elt F)) :
    shapeCast S256x256 ((rM : Memref sig .tc .vmem S16x256x256 .f32).view.readAt (Elt F) (slotR d).toLoadRect f : Vec F S1x256x256 .f32) shapeCasts_S1x256x256_S256x256
      = (slotM d).view.read (Elt F) f := rfl

omit [FloatOps F] in
/-- A landed copy of the rows sent at offset `d` leaves the receiver's slot `d` holding them. -/
theorem landed (c : Dev nD) (d : Fin 16) (fd : (cc0_scratch0 : Ref sig .tc).ty.Contents (Elt F)) :
    (slotM d).view.read (Elt F) ((slotM d).view.write (Elt F) fd ((xBM (dst c d)).view.read (Elt F) (xstg m ρ c)) Finset.univ)
      = xval m ρ (frm (dst c d) d) (dst c d) := by
  rw [View.read_write_univ, frm_dst]; rfl

/-! ## The running sum -/

/-- One step of the running sum: the sum so far plus a received piece times its rows of `w`. -/
def accStep (out : Vec F S256x2048 .f32) (a : Vec F S256x256 .f32) (w : Vec F S256x2048 .f32) : FVec F S256x2048 .f32 :=
  addf (shapeCast S256x2048 out shapeCasts_S256x2048_S256x2048 : FVec F S256x2048 .f32)
    (matmul dot_S256x256_S256x2048_S256x2048_1_0_0_1_n_n none (a : FVec F S256x256 .f32)
      (shapeCast S256x2048 w shapeCasts_S256x2048_S256x2048 : FVec F S256x2048 .f32) (constant S256x2048 .f32 0x00000000#32) : FVec F S256x2048 .f32)

/-- The running sum on device `c` after the pieces of the offsets listed (the latest first) have been added to its own
    product. -/
def accL (c : Dev nD) : List (Fin 16) → Vec F S256x2048 .f32
  | [] => k0_pay1 (xval m ρ c c) (wval m ρ c c)
  | d :: l => accStep (accL c l) (xval m ρ (frm c d) c) (wval m ρ c (frm c d))

/-- The kernel's result on device `c`. -/
def outAt (c : Dev nD) : (cc0_stg2_0 : Ref sig .tc).ty.Contents (Elt F) := k0_pay17 (accL m ρ c offsRev)

end Cert.KernelProof

end
-- ==== Proof.Steps.lean ====
/- One rule per operation the kernel repeats: the signal that opens a slot, the barrier wait, the copy sent, the copy
   waited for and added to the running sum, and the wait that gives sent rows back. Each rule is stated once, for any
   offset, with whatever else is held carried along unread. -/
module

public import proofs.«01_k».proof.Proof.Geom

@[expose] public section

set_option maxRecDepth 65536

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

abbrev 𝒱₀ : Variants := Variants.none

/-- The weakest precondition of a program run by device `c`'s core. -/
abbrev WP (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

/-- What device `c` owes, whatever it has waited on so far. -/
def ow (c : Dev nD) (O : CellTallies nD τ sig Unit) : sProp 𝕄 := iprop(∃ W, owes (c : Thread nD τ) O W)

/-- The staged `w` and the staged result, held. -/
def wPts (c : Dev nD) : sProp 𝕄 := ((c : Thread nD τ).loc cc0_stg1_0) ↦{fullShare} wstg m ρ c
def oPts (c : Dev nD) (f : (cc0_stg2_0 : Ref sig .tc).ty.Contents (Elt F)) : sProp 𝕄 := ((c : Thread nD τ).loc cc0_stg2_0) ↦{fullShare} f

/-! ## What is held at each stage -/

/-- While opening slots: what is owed, and per offset still to open its barrier token and the slot. -/
def SigSt (c : Dev nD) (l : List (Fin 16)) : sProp 𝕄 :=
  iprop(ow (F := F) c (oweR c offs + oweB c l) ∗ bigL l fun d => iprop(dutyTok ER (barCell (frm c d)) 0 d ∗ slotAny (F := F) c d))

/-- What a send at offset `d` needs: the rows to send, the slot to land in, the tokens of the two payments. -/
def sendNeed (c : Dev nD) (d : Fin 16) : sProp 𝕄 :=
  iprop(xBlk (F := F) m ρ c (dst c d) ∗ slotAny (F := F) (dst c d) d ∗ dutyTok ER (sendCell c d) 0 0 ∗ dutyTok ER (recvCell (dst c d) d) 0 0)

/-- While sending: what is owed, what the sends to come need, and the credit of each send made. -/
def SendSt (c : Dev nD) (l done : List (Fin 16)) : sProp 𝕄 :=
  iprop(ow (F := F) c (oweR c l) ∗ (bigL l fun d => sendNeed (F := F) m ρ c d) ∗ bigL done fun d => cred (tallyAt (sendCell c d) () N))

/-- While summing: credits and positions of the receives to come; the running sum; `w`; and each slot received. -/
def AccSt (c : Dev nD) (l done : List (Fin 16)) : sProp 𝕄 :=
  iprop(ow (F := F) c 0 ∗ (bigL l fun d => iprop(cred (tallyAt (recvCell c d) () N) ∗ atPos ER (recvCell c d) 0 ∅ 0))
    ∗ oPts c (accL (F := F) m ρ c done) ∗ wPts (F := F) m ρ c ∗ bigL done fun d => iprop(slotGot (F := F) m ρ c d ∗ atPos ER (recvCell c d) 1 ∅ 0))

/-- While waiting for the sends: credits and positions of those to come; the rows given back by those waited for. -/
def BackSt (c : Dev nD) (l done : List (Fin 16)) : sProp 𝕄 :=
  iprop(ow (F := F) c 0 ∗ (bigL l fun d => iprop(cred (tallyAt (sendCell c d) () N) ∗ atPos ER (sendCell c d) 0 ∅ 0))
    ∗ bigL done fun d => iprop(xBlk (F := F) m ρ c (dst c d) ∗ atPos ER (sendCell c d) 1 ∅ 0))

omit [FloatOps F] in
theorem bigL_cons (d : Fin 16) (l : List (Fin 16)) (Φ : Fin 16 → sProp 𝕄) : bigL (d :: l) Φ = iprop(Φ d ∗ bigL l Φ) := rfl

section Rules
variable (K : Dev nD × Fin 33 → ℕ) (c : Dev nD)

/-- Signalling the barrier of the device `d` places before hands it slot `d`. -/
theorem step_signal {Q : PUnit → sProp 𝕄} {R : sProp 𝕄} (d : Fin 16) (hd : d ≠ 0) (n : Dev nD) (hn : n = frm c d) {z : ℤ} (hz : z = 1) (l : List (Fin 16))
    {k : PUnit → Prog (TpuEff nD τ sig (Elt F) Λ₀ .tc) PUnit}
    (h : iprop(recs (F := F) m ρ K ∗ SigSt (F := F) c l ∗ R) ⊢ WP c (k ⟨⟩) Q) :
    iprop(recs (F := F) m ρ K ∗ SigSt (F := F) c (d :: l) ∗ R) ⊢ WP c (.op (.semSignal (n : Thread nD τ) barS z) k) Q := by
  subst hn hz
  iintro ⟨#HR, HS, HF⟩
  unfold SigSt ow
  rw [bigL_cons]
  icases HS with ⟨⟨%W, HO⟩, ⟨Ht, Hs⟩, Hl⟩
  iapply (Rounds.wp_signal 𝒱₀ ER (rd (F := F) m ρ) (c : Thread nD τ) none (dst := (frm c d : Thread nD τ)) (κ := K (frm c d, 0)) (k' := 1)
      (d := d) (by rw [duties_bar]; exact Finset.mem_erase.mpr ⟨hd, Finset.mem_univ _⟩) (amount_bar (F := F) m ρ (frm c d) d) ()
      (oweR c offs + oweB c l) (add_assoc _ _ _).symm) $$ [HO Ht Hs]
  · isplitr; · iapply (inv_at (F := F) m ρ K (frm c d, 0) (barCell (frm c d)) rfl); iexact HR
    isplitl [HO]; · iexact HO
    isplitl [Ht]; · iexact Ht
    isplitl [Hs]
    · rw [payload_bar, dst_frm]; iexact Hs
    iapply (reached_at (F := F) m ρ K (frm c d, 0) (barCell (frm c d)) rfl); iexact HR
  iintro HO
  iapply h
  isplitr; · iexact HR
  isplitr [HF]
  · unfold SigSt ow
    isplitl [HO]; · iexists W; iexact HO
    iexact Hl
  iexact HF

/-- The barrier wait: every slot the device will send into is handed over. -/
theorem step_barrier {Q : PUnit → sProp 𝕄} {R : sProp 𝕄} {z : ℤ} (hz : z = 15) {k : PUnit → Prog (TpuEff nD τ sig (Elt F) Λ₀ .tc) PUnit}
    (h : iprop(recs (F := F) m ρ K ∗ (ow (F := F) c (oweR c offs) ∗ (bigL offs fun d => slotAny (F := F) (dst c d) d) ∗ atPos ER (barCell c) 1 ∅ 0) ∗ R)
      ⊢ WP c (k ⟨⟩) Q) :
    iprop(recs (F := F) m ρ K ∗ (SigSt (F := F) c [] ∗ cred (tallyAt (barCell c) () 15) ∗ atPos ER (barCell c) 0 ∅ 0) ∗ R)
      ⊢ WP c (.op (.semWait barS z) k) Q := by
  subst hz
  have hmw := (lev_at (F := F) m ρ K).trans (mayWait_bar (F := F) c offs)
  iintro ⟨#HR, ⟨HS, Hc, Ha⟩, HF⟩
  unfold SigSt ow
  icases HS with ⟨⟨%W, HO⟩, -⟩
  rw [show oweR c offs + oweB c [] = oweR c offs from add_zero _]
  revert h hmw
  generalize oweR c offs = O
  intro h hmw
  iapply (Rounds.wp_wait_rest_token 𝒱₀ ER (rd (F := F) m ρ) (c : Thread nD τ) none (κ := K (c, 0))
      (wpE_semWait_eq 𝒱₀ (c : Thread nD τ) none Set.univ (k := 15)) (Set.mem_univ _) () (O := O) (W := W) (R := 0) (m := 0) (T := ∅)
      (by rw [expect_bar])) $$ [Hc HO Ha]
  · isplitr; · iapply (inv_at (F := F) m ρ K (c, 0) (barCell c) rfl); iexact HR
    isplitl [Hc]; · iexact Hc
    isplitl [HO]; · iexact HO
    isplitr; · iapply hmw; iexact HR
    iexact Ha
  iintro ⟨HO, Ha, -, Hpay⟩
  ihave Hp := (Entails.of_eq ((rest_bar (F := F) m ρ c).trans (bigSep_offs _))) $$ Hpay
  iapply h
  isplitr; · iexact HR
  isplitr [HF]
  · unfold ow
    isplitl [HO]; · iexists (insert (SemLoc.reg barS, ()) W); iexact HO
    isplitl [Hp]; · iexact Hp
    iexact Ha
  iexact HF

/-- Sending at offset `d`. -/
theorem step_send {Q : PUnit → sProp 𝕄} {R : sProp 𝕄} (d : Fin 16) (hd : d ≠ 0) {n : Dev nD} (hn : n = dst c d)
    {src : Memref sig .tc .vmem S256x256 .f32} (hs : xBM (dst c d) = src)
    {tgt : Memref sig (Dev.tc n : Thread nD τ).2.kind .vmem S256x256 .f32} (ht : tgt = slotM d)
    {qS qR : DmaSem sig} (hqS : qS = sendS d) (hqR : qR = recvS d) (l done : List (Fin 16))
    {hsc : tgt.view.ref.isScScratch = false} {hsrc : src.view.WordExact} {hdst : tgt.view.WordExact}
    {hsem : DmaTarget.Typed .vmem (.dma qR) (.remote (Dev.tc n : Thread nD τ) tgt (.dma qS) hsc)}
    {k : PUnit → Prog (TpuEff nD τ sig (Elt F) Λ₀ .tc) PUnit}
    (h : iprop(recs (F := F) m ρ K ∗ SendSt (F := F) m ρ c l (d :: done) ∗ R) ⊢ WP c (k ⟨⟩) Q) :
    iprop(recs (F := F) m ρ K ∗ SendSt (F := F) m ρ c (d :: l) done ∗ R)
      ⊢ WP c (.op (.enqueueDma src (.remote (Dev.tc n : Thread nD τ) tgt (.dma qS) hsc) (.dma qR) hsrc hdst hsem) k) Q := by
  subst hn hs ht hqS hqR
  iintro ⟨#HR, HS, HF⟩
  unfold SendSt ow
  rw [bigL_cons]
  icases HS with ⟨⟨%W, HO⟩, ⟨Hn, Hl⟩, Hd⟩
  unfold sendNeed slotAny
  icases Hn with ⟨Hx, ⟨%fd, Hs⟩, HtS, HtV⟩
  unfold xBlk slotAt
  iapply (Rounds.wp_send_pointsTo 𝒱₀ ER (rd (F := F) m ρ) (c : Thread nD τ) none (κ₁ := K (c, sIx d)) (κ₂ := K (dst c d, rIx d))
    (r₁ := 0) (r₂ := 0) (d₁ := 0) (d₂ := 0) (fd := fd)
    (by rw [duties_send (F := F) m ρ c d hd]; exact Finset.mem_singleton_self _) (by rw [duties_recv (F := F) m ρ (dst c d) d hd]; exact Finset.mem_singleton_self _)
    () () N (slot_amount d d) (amount_dma (F := F) m ρ c _ 0) (amount_dma (F := F) m ρ (dst c d) _ 0) (oweR c l) rfl (W := W)
    (by rw [payload_send]; exact BI.Entails.refl _)
    (by
      rw [payload_recv]; unfold slotGot slotAt
      iintro H
      iexists _
      isplitr
      · ipureintro; exact landed (F := F) m ρ c d fd
      iexact H)) $$ [Hx Hs HO HtS HtV]
  · isplitr; · iapply (inv_at (F := F) m ρ K (c, sIx d) (sendCell c d) (kcell_send c d)); iexact HR
    isplitr; · iapply (inv_at (F := F) m ρ K (dst c d, rIx d) (recvCell (dst c d) d) (kcell_recv _ d)); iexact HR
    isplitl [Hx]; · iexact Hx
    isplitl [Hs]; · iexact Hs
    isplitl [HO]; · iexact HO
    isplitl [HtS]; · iexact HtS
    isplitr; · iapply (reached_at (F := F) m ρ K (c, sIx d) (sendCell c d) (kcell_send c d)); iexact HR
    isplitl [HtV]; · iexact HtV
    iapply (reached_at (F := F) m ρ K (dst c d, rIx d) (recvCell (dst c d) d) (kcell_recv _ d)); iexact HR
  iintro ⟨HcS, HO⟩
  iapply h
  isplitr; · iexact HR
  isplitr [HF]
  · unfold SendSt ow
    rw [bigL_cons]
    isplitl [HO]; · iexists W; iexact HO
    isplitl [Hl]; · iexact Hl
    isplitl [HcS] <;> iassumption
  iexact HF

/-- Waiting for the copy sent at offset `d`: its rows are back. -/
theorem step_back {Q : PUnit → sProp 𝕄} {R : sProp 𝕄} (d : Fin 16) (hd : d ≠ 0) {q : DmaSem sig} (hq : q = sendS d) (l done : List (Fin 16)) {κ' : Kind} {src : Memref sig .tc .vmem S256x256 .f32} {tgt : Memref sig κ' .vmem S256x256 .f32}
    (ht : tgt.view.dmaCredit = N) {hsrc : src.view.WordExact} {hdst : tgt.view.WordExact}
    {k : PUnit → Prog (TpuEff nD τ sig (Elt F) Λ₀ .tc) PUnit}
    (h : iprop(recs (F := F) m ρ K ∗ BackSt (F := F) m ρ c l (d :: done) ∗ R) ⊢ WP c (k ⟨⟩) Q) :
    iprop(recs (F := F) m ρ K ∗ BackSt (F := F) m ρ c (d :: l) done ∗ R) ⊢ WP c (.op (.waitDma2 q src tgt hsrc hdst) k) Q := by
  subst hq
  iintro ⟨#HR, HS, HF⟩
  unfold BackSt ow
  rw [bigL_cons]
  icases HS with ⟨⟨%W, HO⟩, ⟨⟨Hc, Ha⟩, Hl⟩, Hd⟩
  iapply (Rounds.wp_wait_rest_token 𝒱₀ ER (rd (F := F) m ρ) (c : Thread nD τ) none (κ := K (c, sIx d))
      (wpE_waitDma2_eq 𝒱₀ (c : Thread nD τ) none Set.univ) (Set.mem_univ _) () (O := 0) (W := W) (R := 0) (m := 0) (T := ∅)
      (by rw [Nat.zero_add, expect_send (F := F) m ρ c d hd, ht])) $$ [Hc HO Ha]
  · isplitr; · iapply (inv_at (F := F) m ρ K (c, sIx d) (sendCell c d) (kcell_send c d)); iexact HR
    isplitl [Hc]; · rw [ht]; iexact Hc
    isplitl [HO]; · iexact HO
    isplitr; · rw [MayWait_zero]; iempintro
    iexact Ha
  iintro ⟨HO, Ha, -, Hpay⟩
  ihave Hx := (Entails.of_eq (rest_send (F := F) m ρ c d hd)) $$ Hpay
  iapply h
  isplitr; · iexact HR
  isplitr [HF]
  · unfold BackSt ow
    rw [bigL_cons]
    isplitl [HO]; · iexists (insert (SemLoc.dma (sendS d), ()) W); iexact HO
    isplitl [Hl]; · iexact Hl
    isplitl [Hx Ha]
    · isplitl [Hx] <;> iassumption
    iexact Hd
  iexact HF

/-- The device's own product: its row block of `x` and of `w` loaded, the product stored as the running sum. -/
theorem step_own {Q : PUnit → sProp 𝕄} {R : sProp 𝕄} {o2 o3 : Fin 2 → ℕ} (h2 : o2 = ![256 * c.val, 0]) (h3 : o3 = ![256 * c.val, 0])
    {i2 : ∀ a, o2 a + S256x256.size a ≤ S4096x256.size a} {i3 : ∀ a, o3 a + S256x2048.size a ≤ S4096x2048.size a}
    {hl0 : (xM : Memref sig .tc .vmem S4096x256 .f32).view.LoadsAt (Rect.unit (s := S4096x256) o2 S256x256.size i2).toLoadRect}
    {hl1 : (wM : Memref sig .tc .vmem S4096x2048 .f32).view.LoadsAt (Rect.unit (s := S4096x2048) o3 S256x2048.size i3).toLoadRect}
    {hl2 : (oM : Memref sig .tc .vmem S256x2048 .f32).view.LoadsAt rO.toLoadRect}
    {hx : ((oM : Memref sig .tc .vmem S256x2048 .f32).access rO).Stores Finset.univ} {hm}
    {k : PUnit → Prog (TpuEff nD τ sig (Elt F) Λ₀ .tc) PUnit}
    (h : iprop(recs (F := F) m ρ K ∗ (xBlk (F := F) m ρ c c ∗ wPts (F := F) m ρ c ∗ oPts c (accL (F := F) m ρ c [])) ∗ R) ⊢ WP c (k ⟨⟩) Q) :
    iprop(recs (F := F) m ρ K ∗ (xBlk (F := F) m ρ c c ∗ wPts (F := F) m ρ c ∗ ∃ f, oPts (F := F) c f) ∗ R)
      ⊢ WP c (.op (.load xM (Rect.unit (s := S4096x256) o2 S256x256.size i2).toLoadRect hl0) fun a =>
          .op (.load wM (Rect.unit (s := S4096x2048) o3 S256x2048.size i3).toLoadRect hl1) fun b =>
          .op (.load oM rO.toLoadRect hl2) fun _ =>
          .op (.store oM rO (k0_pay1 a b) Finset.univ hx hm) k) Q := by
  subst h2 h3
  iintro ⟨#HR, ⟨Hx, Hw, ⟨%f, Ho⟩⟩, HF⟩
  unfold xBlk wPts oPts
  iapply (wp_load_rect 𝒱₀ (c : Thread nD τ) none Set.univ (m := xM) (r := Rect.unit (s := S4096x256) ![256 * c.val, 0] S256x256.size i2) (subset_refl _)) $$ Hx; iintro Hx
  iapply (wp_load 𝒱₀ (c : Thread nD τ) none Set.univ (m := wM) (Finset.subset_univ _)) $$ Hw; iintro Hw
  iapply (wp_load 𝒱₀ (c : Thread nD τ) none Set.univ (m := oM) (Finset.subset_univ _)) $$ Ho; iintro Ho
  iapply (wp_store 𝒱₀ (c : Thread nD τ) none Set.univ (m := oM) (r := rO) (Mk := Finset.univ) (Finset.subset_univ _)) $$ Ho; iintro Ho
  rw [write_o]
  iapply h
  isplitr; · iexact HR
  isplitr [HF]
  · unfold xBlk wPts oPts
    isplitl [Hx]; · iexact Hx
    isplitl [Hw]; · iexact Hw
    iexact Ho
  iexact HF

/-- Waiting for the copy of offset `d` and adding its product to the running sum. -/
theorem step_acc {Q : PUnit → sProp 𝕄} {R : sProp 𝕄} (d : Fin 16) (hd : d ≠ 0) {q : DmaSem sig} (hq : q = recvS d) (l done : List (Fin 16)) {src : Memref sig .tc .vmem S256x256 .f32} {κ' : Kind} {tgt : Memref sig κ' .vmem S256x256 .f32}
    (ht : tgt.view.dmaCredit = N) {hsrc : src.view.WordExact} {hdst : tgt.view.WordExact}
    {o1 : Fin 3 → ℕ} (h1 : o1 = ![d.val, 0, 0]) {i1 : ∀ a, o1 a + S1x256x256.size a ≤ S16x256x256.size a}
    {o4 : Fin 2 → ℕ} (h4 : ![256 * (frm c d).val, 0] = o4) {i4 : ∀ a, o4 a + S256x2048.size a ≤ S4096x2048.size a}
    (pay : Vec F S256x2048 .f32 → Vec F S1x256x256 .f32 → Vec F S256x2048 .f32 → FVec F S256x2048 .f32)
    (hpay : ∀ o a w, pay o a w = accStep o (shapeCast S256x256 a shapeCasts_S1x256x256_S256x256) w)
    {hl0 : (oM : Memref sig .tc .vmem S256x2048 .f32).view.LoadsAt rO.toLoadRect}
    {hl1 : (rM : Memref sig .tc .vmem S16x256x256 .f32).view.LoadsAt (Rect.unit (s := S16x256x256) o1 S1x256x256.size i1).toLoadRect}
    {hl2 : (wM : Memref sig .tc .vmem S4096x2048 .f32).view.LoadsAt (Rect.unit (s := S4096x2048) o4 S256x2048.size i4).toLoadRect}
    {hl3 : (oM : Memref sig .tc .vmem S256x2048 .f32).view.LoadsAt rO.toLoadRect}
    {hx : ((oM : Memref sig .tc .vmem S256x2048 .f32).access rO).Stores Finset.univ} {hm}
    {k : PUnit → Prog (TpuEff nD τ sig (Elt F) Λ₀ .tc) PUnit}
    (h : iprop(recs (F := F) m ρ K ∗ AccSt (F := F) m ρ c l (d :: done) ∗ R) ⊢ WP c (k ⟨⟩) Q) :
    iprop(recs (F := F) m ρ K ∗ AccSt (F := F) m ρ c (d :: l) done ∗ R)
      ⊢ WP c (.op (.waitDma2 q src tgt hsrc hdst) fun _ =>
          .op (.load oM rO.toLoadRect hl0) fun o =>
          .op (.load rM (Rect.unit (s := S16x256x256) o1 S1x256x256.size i1).toLoadRect hl1) fun a =>
          .op (.load wM (Rect.unit (s := S4096x2048) o4 S256x2048.size i4).toLoadRect hl2) fun w =>
          .op (.load oM rO.toLoadRect hl3) fun _ =>
          .op (.store oM rO (pay o a w) Finset.univ hx hm) k) Q := by
  subst h4 h1 hq
  iintro ⟨#HR, HS, HF⟩
  unfold AccSt ow
  rw [bigL_cons]
  icases HS with ⟨⟨%W, HO⟩, ⟨⟨Hc, Ha⟩, Hl⟩, Ho, Hw, Hd⟩
  iapply (Rounds.wp_wait_rest_token 𝒱₀ ER (rd (F := F) m ρ) (c : Thread nD τ) none (κ := K (c, rIx d))
      (wpE_waitDma2_eq 𝒱₀ (c : Thread nD τ) none Set.univ) (Set.mem_univ _) () (O := 0) (W := W) (R := 0) (m := 0) (T := ∅)
      (by rw [Nat.zero_add, expect_recv (F := F) m ρ c d hd, ht])) $$ [Hc HO Ha]
  · isplitr; · iapply (inv_at (F := F) m ρ K (c, rIx d) (recvCell c d) (kcell_recv c d)); iexact HR
    isplitl [Hc]; · rw [ht]; iexact Hc
    isplitl [HO]; · iexact HO
    isplitr; · rw [MayWait_zero]; iempintro
    iexact Ha
  iintro ⟨HO, Ha, -, Hpay⟩
  ihave Hg := (Entails.of_eq (rest_recv (F := F) m ρ c d hd)) $$ Hpay
  unfold slotGot
  icases Hg with ⟨%f, %hf, Hs⟩
  unfold slotAt wPts oPts
  iapply (wp_load 𝒱₀ (c : Thread nD τ) none Set.univ (m := oM) (Finset.subset_univ _)) $$ Ho; iintro Ho
  iapply (wp_load_rect 𝒱₀ (c : Thread nD τ) none Set.univ (m := rM) (r := slotR d) (S := (slotM d).view.set) (by rw [slot_set]; exact (View.set_slice_whole _ _).subset)) $$ Hs; iintro Hs
  iapply (wp_load 𝒱₀ (c : Thread nD τ) none Set.univ (m := wM) (Finset.subset_univ _)) $$ Hw; iintro Hw
  iapply (wp_load 𝒱₀ (c : Thread nD τ) none Set.univ (m := oM) (Finset.subset_univ _)) $$ Ho; iintro Ho
  iapply (wp_store 𝒱₀ (c : Thread nD τ) none Set.univ (m := oM) (r := rO) (Mk := Finset.univ) (Finset.subset_univ _)) $$ Ho; iintro Ho
  rw [write_o, hpay, read_o]
  iapply h
  isplitr; · iexact HR
  isplitr [HF]
  · unfold AccSt ow slotGot slotAt wPts oPts
    rw [bigL_cons]
    isplitl [HO]; · iexists (insert (SemLoc.dma (recvS d), ()) W); iexact HO
    isplitl [Hl]; · iexact Hl
    isplitl [Ho]
    · rw [accL, ← hf, ← read_slot]; iexact Ho
    isplitl [Hw]; · iexact Hw
    isplitl [Hs Ha]
    · isplitl [Hs]
      · iexists f
        isplitr; · (ipureintro; exact hf)
        iexact Hs
      iexact Ha
    iexact Hd
  iexact HF

/-- The last stage: the sum loaded, multiplied by its logistic, stored. -/
theorem step_final {Q : PUnit → sProp 𝕄} {R : sProp 𝕄} (f : (cc0_stg2_0 : Ref sig .tc).ty.Contents (Elt F))
    {hl0 hl1 : (oM : Memref sig .tc .vmem S256x2048 .f32).view.LoadsAt rO.toLoadRect}
    {hx : ((oM : Memref sig .tc .vmem S256x2048 .f32).access rO).Stores Finset.univ} {hm}
    {k : PUnit → Prog (TpuEff nD τ sig (Elt F) Λ₀ .tc) PUnit}
    (h : iprop(recs (F := F) m ρ K ∗ oPts c (k0_pay17 f) ∗ R) ⊢ WP c (k ⟨⟩) Q) :
    iprop(recs (F := F) m ρ K ∗ oPts (F := F) c f ∗ R)
      ⊢ WP c (.op (.load oM rO.toLoadRect hl0) fun o =>
          .op (.load oM rO.toLoadRect hl1) fun _ =>
          .op (.store oM rO (k0_pay17 o) Finset.univ hx hm) k) Q := by
  iintro ⟨#HR, Ho, HF⟩
  unfold oPts
  iapply (wp_load 𝒱₀ (c : Thread nD τ) none Set.univ (m := oM) (Finset.subset_univ _)) $$ Ho; iintro Ho
  iapply (wp_load 𝒱₀ (c : Thread nD τ) none Set.univ (m := oM) (Finset.subset_univ _)) $$ Ho; iintro Ho
  iapply (wp_store 𝒱₀ (c : Thread nD τ) none Set.univ (m := oM) (r := rO) (Mk := Finset.univ) (Finset.subset_univ _)) $$ Ho; iintro Ho
  rw [write_o, read_o]
  iapply h
  isplitr; · iexact HR
  isplitl [Ho]; · unfold oPts; iexact Ho
  iexact HF

end Rules

end Cert.KernelProof

end
-- ==== Proof.Body.lean ====
/- The kernel's body, run from what a device starts with to what it ends with. -/
module

public import proofs.«01_k».proof.Proof.Steps

@[expose] public section

set_option maxRecDepth 65536

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

omit [FloatOps F] in
/-- A separating product over the list of offsets does not depend on the order. -/
theorem bigL_flip (Φ : Fin 16 → sProp 𝕄) : bigL offsRev Φ = bigL offs Φ := (bigSep_offsRev Φ).symm.trans (bigSep_offs Φ)

omit [FloatOps F] in
theorem bigL_sep (l : List (Fin 16)) (Φ Ψ : Fin 16 → sProp 𝕄) :
    iprop(bigL l Φ ∗ bigL l Ψ) ⊢ bigL l fun d => iprop(Φ d ∗ Ψ d) := by
  induction l with
  | nil => iintro ⟨H, -⟩; iexact H
  | cons d l ih =>
    rw [bigL_cons, bigL_cons, bigL_cons]
    iintro ⟨⟨H1, H2⟩, H3, H4⟩
    isplitl [H1 H3]
    · isplitl [H1] <;> iassumption
    iapply ih
    isplitl [H2] <;> iassumption

/-- What device `c` holds when its body starts, beside the records. -/
def Start (c : Dev nD) : sProp 𝕄 :=
  iprop(SigSt (F := F) c offsRev ∗ (cred (tallyAt (barCell c) () 15) ∗ atPos ER (barCell c) 0 ∅ 0)
    ∗ (bigL offs fun d => xBlk (F := F) m ρ c (dst c d))
    ∗ (bigL offs fun d => iprop(dutyTok ER (sendCell c d) 0 0 ∗ dutyTok ER (recvCell (dst c d) d) 0 0))
    ∗ (xBlk m ρ c c ∗ wPts m ρ c ∗ ∃ f, oPts (F := F) c f)
    ∗ (bigL offs fun d => iprop(cred (tallyAt (recvCell c d) () N) ∗ atPos ER (recvCell c d) 0 ∅ 0))
    ∗ (bigL offs fun d => atPos ER (sendCell c d) 0 ∅ 0))

/-- What device `c` holds when its body has run, beside the records. -/
def Finish (c : Dev nD) : sProp 𝕄 :=
  iprop(ow (F := F) c 0 ∗ (bigL offsRev fun d => iprop(xBlk (F := F) m ρ c (dst c d) ∗ atPos ER (sendCell c d) 1 ∅ 0))
    ∗ atPos ER (barCell c) 1 ∅ 0 ∗ xBlk m ρ c c ∗ wPts m ρ c ∗ oPts c (outAt m ρ c)
    ∗ bigL offsRev fun d => iprop(slotGot (F := F) m ρ c d ∗ atPos ER (recvCell c d) 1 ∅ 0))

section Body
variable (K : Dev nD × Fin 33 → ℕ) (c : Dev nD)

/-! ### What is carried from one stage to the next, regrouped -/

theorem start_open (R : sProp 𝕄) : iprop(recs (F := F) m ρ K ∗ Start m ρ c ∗ R)
    ⊢ iprop(recs (F := F) m ρ K ∗ SigSt (F := F) c offsRev ∗ (cred (tallyAt (barCell c) () 15) ∗ atPos ER (barCell c) 0 ∅ 0) ∗ (bigL offs fun d => xBlk (F := F) m ρ c (dst c d)) ∗ (bigL offs fun d => iprop(dutyTok ER (sendCell c d) 0 0 ∗ dutyTok ER (recvCell (dst c d) d) 0 0))
        ∗ (xBlk m ρ c c ∗ wPts m ρ c ∗ ∃ f, oPts (F := F) c f) ∗ (bigL offs fun d => iprop(cred (tallyAt (recvCell c d) () N) ∗ atPos ER (recvCell c d) 0 ∅ 0)) ∗ (bigL offs fun d => atPos ER (sendCell c d) 0 ∅ 0) ∗ R) := by
  unfold Start
  iintro ⟨HR, ⟨H1, H2, H3, H4, H5, H6, H7⟩, HF⟩
  isplitl [HR]; · iexact HR
  isplitl [H1]; · iexact H1
  isplitl [H2]; · iexact H2
  isplitl [H3]; · iexact H3
  isplitl [H4]; · iexact H4
  isplitl [H5]; · iexact H5
  isplitl [H6]; · iexact H6
  isplitl [H7] <;> iassumption

theorem to_barrier (R : sProp 𝕄) : iprop(recs (F := F) m ρ K ∗ SigSt (F := F) c [] ∗ (cred (tallyAt (barCell c) () 15) ∗ atPos ER (barCell c) 0 ∅ 0) ∗ R)
    ⊢ iprop(recs (F := F) m ρ K ∗ (SigSt (F := F) c [] ∗ cred (tallyAt (barCell c) () 15) ∗ atPos ER (barCell c) 0 ∅ 0) ∗ R) := by
  iintro ⟨HR, H1, H2, HF⟩
  isplitl [HR]; · iexact HR
  isplitr [HF]
  · isplitl [H1] <;> iassumption
  iexact HF

theorem to_sends (R : sProp 𝕄) :
    iprop(recs (F := F) m ρ K ∗ (ow (F := F) c (oweR c offs) ∗ (bigL offs fun d => slotAny (F := F) (dst c d) d) ∗ atPos ER (barCell c) 1 ∅ 0) ∗ (bigL offs fun d => xBlk (F := F) m ρ c (dst c d)) ∗ (bigL offs fun d => iprop(dutyTok ER (sendCell c d) 0 0 ∗ dutyTok ER (recvCell (dst c d) d) 0 0)) ∗ R)
    ⊢ iprop(recs (F := F) m ρ K ∗ SendSt m ρ c offs [] ∗ atPos ER (barCell c) 1 ∅ 0 ∗ R) := by
  iintro ⟨HR, ⟨HO, Hs, Ha⟩, Hx, Ht, HF⟩
  isplitl [HR]; · iexact HR
  isplitl [HO Hs Hx Ht]
  · unfold SendSt
    isplitl [HO]; · iexact HO
    isplitl [Hs Hx Ht]
    · unfold sendNeed
      iapply (bigL_sep offs); isplitl [Hx]; · iexact Hx
      iapply (bigL_sep offs); isplitl [Hs]; · iexact Hs
      iexact Ht
    unfold bigL; iempintro
  isplitl [Ha] <;> iassumption

theorem to_own (R : sProp 𝕄) : iprop(recs (F := F) m ρ K ∗ SendSt m ρ c [] offsRev ∗ atPos ER (barCell c) 1 ∅ 0 ∗ (xBlk m ρ c c ∗ wPts m ρ c ∗ ∃ f, oPts (F := F) c f) ∗ R)
    ⊢ iprop(recs (F := F) m ρ K ∗ (xBlk m ρ c c ∗ wPts m ρ c ∗ ∃ f, oPts (F := F) c f) ∗ ow (F := F) c 0 ∗ (bigL offsRev fun d => cred (tallyAt (sendCell c d) () N)) ∗ atPos ER (barCell c) 1 ∅ 0 ∗ R) := by
  unfold SendSt
  iintro ⟨HR, ⟨HO, -, Hc⟩, Ha, Hown, HF⟩
  isplitl [HR]; · iexact HR
  isplitl [Hown]; · iexact Hown
  isplitl [HO]; · iexact HO
  isplitl [Hc]; · iexact Hc
  isplitl [Ha] <;> iassumption

theorem to_sum (R : sProp 𝕄) :
    iprop(recs (F := F) m ρ K ∗ (xBlk m ρ c c ∗ wPts m ρ c ∗ oPts c (accL m ρ c [])) ∗ ow (F := F) c 0 ∗ (bigL offsRev fun d => cred (tallyAt (sendCell c d) () N)) ∗ atPos ER (barCell c) 1 ∅ 0 ∗ (bigL offs fun d => iprop(cred (tallyAt (recvCell c d) () N) ∗ atPos ER (recvCell c d) 0 ∅ 0)) ∗ R)
    ⊢ iprop(recs (F := F) m ρ K ∗ AccSt m ρ c offs [] ∗ xBlk m ρ c c ∗ (bigL offsRev fun d => cred (tallyAt (sendCell c d) () N)) ∗ atPos ER (barCell c) 1 ∅ 0 ∗ R) := by
  iintro ⟨HR, ⟨Hx, Hw, Ho⟩, HO, Hc, Ha, Hr, HF⟩
  isplitl [HR]; · iexact HR
  isplitl [Hw Ho HO Hr]
  · unfold AccSt
    isplitl [HO]; · iexact HO
    isplitl [Hr]; · iexact Hr
    isplitl [Ho]; · iexact Ho
    isplitl [Hw]; · iexact Hw
    unfold bigL; iempintro
  isplitl [Hx]; · iexact Hx
  isplitl [Hc]; · iexact Hc
  isplitl [Ha] <;> iassumption

/-- The slots received and the positions of their cells, after the last sum. -/
abbrev gotAll : sProp 𝕄 := bigL offsRev fun d => iprop(slotGot (F := F) m ρ c d ∗ atPos ER (recvCell c d) 1 ∅ 0)

theorem to_final (R : sProp 𝕄) : iprop(recs (F := F) m ρ K ∗ AccSt m ρ c [] offsRev ∗ R)
    ⊢ iprop(recs (F := F) m ρ K ∗ oPts (F := F) c (accL m ρ c offsRev) ∗ (ow (F := F) c 0 ∗ wPts m ρ c ∗ gotAll m ρ c) ∗ R) := by
  unfold AccSt
  iintro ⟨HR, ⟨HO, -, Ho, Hw, Hg⟩, HF⟩
  isplitl [HR]; · iexact HR
  isplitl [Ho]; · iexact Ho
  isplitr [HF]
  · isplitl [HO]; · iexact HO
    isplitl [Hw] <;> iassumption
  iexact HF

theorem to_back (R : sProp 𝕄) :
    iprop(recs (F := F) m ρ K ∗ oPts (F := F) c (outAt m ρ c) ∗ (ow (F := F) c 0 ∗ wPts m ρ c ∗ gotAll m ρ c) ∗ xBlk m ρ c c ∗ (bigL offsRev fun d => cred (tallyAt (sendCell c d) () N)) ∗ atPos ER (barCell c) 1 ∅ 0 ∗ (bigL offs fun d => atPos ER (sendCell c d) 0 ∅ 0) ∗ R)
    ⊢ iprop(recs (F := F) m ρ K ∗ BackSt m ρ c offs [] ∗ oPts (F := F) c (outAt m ρ c) ∗ wPts m ρ c ∗ gotAll m ρ c ∗ xBlk m ρ c c ∗ atPos ER (barCell c) 1 ∅ 0 ∗ R) := by
  rw [bigL_flip]
  iintro ⟨HR, Ho, ⟨HO, Hw, Hg⟩, Hx, Hc, Ha, Hs, HF⟩
  isplitl [HR]; · iexact HR
  isplitl [HO Hc Hs]
  · unfold BackSt
    isplitl [HO]; · iexact HO
    isplitl [Hc Hs]
    · iapply (bigL_sep offs); isplitl [Hc] <;> iassumption
    unfold bigL; iempintro
  isplitl [Ho]; · iexact Ho
  isplitl [Hw]; · iexact Hw
  isplitl [Hg]; · iexact Hg
  isplitl [Hx]; · iexact Hx
  isplitl [Ha] <;> iassumption

theorem to_finish (R : sProp 𝕄) :
    iprop(recs (F := F) m ρ K ∗ BackSt m ρ c [] offsRev ∗ oPts (F := F) c (outAt m ρ c) ∗ wPts m ρ c ∗ gotAll m ρ c ∗ xBlk m ρ c c ∗ atPos ER (barCell c) 1 ∅ 0 ∗ R)
    ⊢ iprop(recs (F := F) m ρ K ∗ Finish m ρ c ∗ R) := by
  unfold BackSt Finish
  iintro ⟨HR, ⟨HO, -, Hb⟩, Ho, Hw, Hg, Hx, Ha, HF⟩
  isplitl [HR]; · iexact HR
  isplitr [HF]
  · isplitl [HO]; · iexact HO
    isplitl [Hb]; · iexact Hb
    isplitl [Ha]; · iexact Ha
    isplitl [Hx]; · iexact Hx
    isplitl [Hw]; · iexact Hw
    isplitl [Ho] <;> iassumption
  iexact HF

/-- The body at the staged buffers, and its end under any continuation. -/
abbrev bodyProg : Prog (TpuEff nD τ sig (Elt F) Λ₀ .tc) PUnit :=
  cc0_body xM (Memref.isWhole_whole _) wM (Memref.isWhole_whole _) oM (Memref.isWhole_whole _) rM (Memref.isWhole_whole _) cc0_scratch1 cc0_scratch2

set_option maxHeartbeats 400000 in
theorem body_run {Q : PUnit → sProp 𝕄} {R : sProp 𝕄} (h : iprop(recs (F := F) m ρ K ∗ Finish m ρ c ∗ R) ⊢ Q ⟨⟩) :
    iprop(recs (F := F) m ρ K ∗ Start m ρ c ∗ R) ⊢ WP c bodyProg Q := by
  unfold bodyProg
  simp only [cc0_body_eq_skeleton]
  unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel
  simp only [semSignalWord, semWaitWord, Prog.lift, Prog.bind_op, Prog.bind_ret, Prog.pure_eq_ret, wp_deviceId]
  refine (start_open m ρ K c _).trans ?_
  iterate 15 refine step_signal (F := F) m ρ K c _ (by decide) _ (by clear * - c; revert c; decide +kernel) (by decide) _ ?_
  refine (to_barrier m ρ K c _).trans ?_
  refine step_barrier (F := F) m ρ K c (by decide) ?_
  refine (to_sends m ρ K c _).trans ?_
  iterate 15 refine step_send (F := F) m ρ K c _ (by decide) (by clear * - c; revert c; decide +kernel) (by exact (xSl_eq c _).symm) (by rfl) (by rfl) (by rfl) _ _ ?_
  refine (to_own m ρ K c _).trans ?_
  refine step_own (F := F) m ρ K c (by exact k0_off2_eq c) (by exact k0_off3_eq c) ?_
  refine (to_sum m ρ K c _).trans ?_
  iterate 15 refine step_acc (F := F) m ρ K c _ (by decide) (by rfl) _ _ (by rfl) (by rfl) (by exact (woff_eq c _).symm) _ (fun _ _ _ => by rfl) ?_
  refine (to_final m ρ K c _).trans ?_
  refine step_final (F := F) m ρ K c _ ?_
  refine (to_back m ρ K c _).trans ?_
  iterate 15 refine step_back (F := F) m ρ K c _ (by decide) (by rfl) _ _ (by rfl) ?_
  refine (to_finish m ρ K c _).trans ?_
  unfold WP
  rw [wp_ret]
  iintro H
  imodintro
  iapply h
  iexact H
end Body

end Cert.KernelProof

end
-- ==== Proof.Oblig.lean ====
/- The obligation the launch puts on the body: from the staged blocks and the exchange's ghost state to the result
   staged, the landing buffer whole again and every counter of the exchange back at zero. -/
module

public import proofs.«01_k».proof.Proof.Body

@[expose] public section

set_option maxRecDepth 65536

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

/-! ## The cells by groups -/

omit [FloatOps F] in
theorem bigSep_first (Φ : Fin 33 → sProp 𝕄) : bigSep Finset.univ Φ = iprop(Φ 0 ∗ bigSep Finset.univ fun j : Fin 32 => Φ j.succ) := by
  rw [bigSep_univ_at Φ 0, show (Finset.univ.erase 0 : Finset (Fin 33)) = Finset.univ.map (Fin.succEmb 32) from by decide, bigSep_map]; rfl

/-- The thirty-two copy cells: sixteen send cells, then sixteen receive cells. -/
def halves : Fin 16 ⊕ Fin 16 ≃ Fin 32 := finSumFinEquiv

omit [FloatOps F] in
theorem bigSep_halves (Φ : Fin 32 → sProp 𝕄) : bigSep Finset.univ Φ
    = iprop((bigSep Finset.univ fun d : Fin 16 => Φ ⟨d.val, by have := d.isLt; omega⟩) ∗ bigSep Finset.univ fun d : Fin 16 => Φ ⟨16 + d.val, by have := d.isLt; omega⟩) := by
  rw [bigSep_univ_equiv halves Φ, bigSep_univ_sum]; rfl

theorem osem_send : ∀ d : Fin 16, osem ⟨d.val, by have := d.isLt; omega⟩ = .dma (sendS d) := by decide
theorem osem_recv : ∀ d : Fin 16, osem ⟨16 + d.val, by have := d.isLt; omega⟩ = .dma (recvS d) := by decide
theorem csem_succ : ∀ j : Fin 32, csem j.succ = osem j := by decide

omit [FloatOps F] in
/-- Over a device's cells: the barrier cell, the send cells, the receive cells. -/
theorem bigSep_cells (c : Dev nD) (Φ : GSem nD τ sig → sProp 𝕄) : (bigSep Finset.univ fun j : Fin 33 => Φ (kcell (c, j)))
    = iprop(Φ (barCell c) ∗ (bigSep Finset.univ fun d : Fin 16 => Φ (sendCell c d)) ∗ bigSep Finset.univ fun d : Fin 16 => Φ (recvCell c d)) := by
  rw [bigSep_first, bigSep_congr (fun (j : Fin 32) _ => show Φ (kcell (c, j.succ)) = Φ ((c : Thread nD τ), osem j) by unfold kcell; dsimp only; rw [csem_succ]),
    bigSep_halves]
  simp only [osem_send, osem_recv]
  rfl

omit [FloatOps F] in
/-- The kernel's own semaphores at zero are its send and receive cells at zero; -/
theorem ownSems0_eq (c : Dev nD) : (Pipeline.ownSems0 (Ix := Unit) (Name := ℕ) (U := UU) (Lvl := ℕ) (Val := Elt F) (τ := τ) osem c : sProp 𝕄)
    = iprop((bigSep Finset.univ fun d : Fin 16 => semVal (sendCell c d) 0) ∗ bigSep Finset.univ fun d : Fin 16 => semVal (recvCell c d) 0) := by
  unfold Pipeline.ownSems0
  rw [bigSep_halves]
  simp only [osem_send, osem_recv]
omit [FloatOps F] in
/-- the barrier semaphore is the one semaphore no launch scopes. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The ghost state a device starts from -/

/-- The records without the levels. -/
def records (K : Dev nD × Fin 33 → ℕ) : sProp 𝕄 :=
  iprop((bigSep Finset.univ fun ck : Dev nD × Fin 33 => cellInv ER (rd (F := F) m ρ) (K ck) (kcell ck))
    ∗ bigSep Finset.univ fun ck : Dev nD × Fin 33 => reached ER (kcell ck) 0)

omit [FloatOps F] in
instance records_persistent (K : Dev nD × Fin 33 → ℕ) : BI.Persistent (records (F := F) m ρ K) := by unfold records; infer_instance

/-- A device's positions at its own cells. -/
def posAll (c : Dev nD) : sProp 𝕄 :=
  iprop(atPos ER (barCell c) 0 ∅ 0 ∗ (bigSep Finset.univ fun d : Fin 16 => atPos ER (sendCell c d) 0 ∅ 0)
    ∗ bigSep Finset.univ fun d : Fin 16 => atPos ER (recvCell c d) 0 ∅ 0)
/-- The tokens of the duties a device pays. -/
def payToks (c : Dev nD) : sProp 𝕄 :=
  iprop((bigSep Finset.univ fun d : Fin 16 => dutyTok ER (barCell (frm c d)) 0 d) ∗ (bigSep Finset.univ fun d : Fin 16 => dutyTok ER (sendCell c d) 0 (0 : Fin 16))
    ∗ bigSep Finset.univ fun d : Fin 16 => dutyTok ER (recvCell (dst c d) d) 0 (0 : Fin 16))

/-- What the global step leaves with a device. -/
def G' (c : Dev nD) : sProp 𝕄 := iprop(∃ K, records (F := F) m ρ K ∗ posAll (F := F) c ∗ payToks (F := F) c)

/-- The credit a device is launched with: its barrier's units, and one square's worth for each receive cell. -/
def credAll (c : Dev nD) : sProp 𝕄 :=
  iprop(cred (tallyAt (barCell c) () 15) ∗ bigSep (Finset.univ.erase 0) fun d : Fin 16 => cred (tallyAt (recvCell c d) () N))

def start (c : Dev nD) : sProp 𝕄 := iprop(G' (F := F) m ρ c ∗ credAll (F := F) c ∗ levAts L lv)

def scr (c : Dev nD) : sProp 𝕄 := iprop(∃ f : Buf (Elt F) ((c : Thread nD τ).loc cc0_scratch0), ((c : Thread nD τ).loc cc0_scratch0) ↦{fullShare} f)

def Φ₀ (c : Dev nD) : sProp 𝕄 := iprop(start (F := F) m ρ c ∗ scr (F := F) c)
def Φ₁ (c : Dev nD) : sProp 𝕄 :=
  iprop(semVal (barCell c) 0 ∗ ((bigSep Finset.univ fun d : Fin 16 => semVal (sendCell c d) 0) ∗ bigSep Finset.univ fun d : Fin 16 => semVal (recvCell c d) 0)
    ∗ scr (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-! ## Closing the cells -/

section Close
variable (K : Dev nD × Fin 33 → ℕ)

omit [FloatOps F] in
/-- A cell with no duty left closes with its counter at zero. -/
theorem close_at (ck : Dev nD × Fin 33) (g : GSem nD τ sig) (hg : kcell ck = g) (R : ℕ) (hR : ∀ r, R ≤ r → (rd (F := F) m ρ).duties g r = ∅) :
    iprop(recs (F := F) m ρ K ∗ atPos ER g R ∅ 0) ⊢ iprop(|={Set.univ}=> semVal g 0) :=
  (sep_mono_left (inv_at (F := F) m ρ K ck g hg)).trans (Rounds.cell_close ER (rd (F := F) m ρ) (Set.mem_univ (K ck)) (fun h => h) (R := R) hR)

omit [FloatOps F] in
/-- The cells of every offset: those of nonzero offset after their round, that of offset zero before any. -/
theorem close_all (g : Fin 16 → GSem nD τ sig) (ix : Fin 16 → Dev nD × Fin 33) (hg : ∀ d, kcell (ix d) = g d)
    (h0 : ∀ r, 0 ≤ r → (rd (F := F) m ρ).duties (g 0) r = ∅) :
    iprop(recs (F := F) m ρ K ∗ atPos ER (g 0) 0 ∅ 0 ∗ bigSep (Finset.univ.erase 0) fun d => atPos ER (g d) 1 ∅ 0)
      ⊢ iprop(|={Set.univ}=> bigSep Finset.univ fun d => semVal (g d) 0) := by
  rw [bigSep_off0]
  iintro ⟨#HR, H0, Hl⟩
  imod (close_at (F := F) m ρ K (ix 0) (g 0) (hg 0) 0 h0) $$ [H0] with H0
  · isplitr; · iexact HR
    iexact H0
  imod ((bigSep_with_persistent (R := recs (F := F) m ρ K) (S := Finset.univ.erase (0 : Fin 16)) (Φ := fun d => atPos ER (g d) 1 ∅ 0)
      fun d _ => close_at (F := F) m ρ K (ix d) (g d) (hg d) 1 (duties_later (F := F) m ρ (g d))).trans (bigSep_fupd _ _)) $$ [Hl] with Hl
  · isplitr; · iexact HR
    iexact Hl
  imodintro
  isplitl [H0] <;> iassumption

end Close

/-! ## The obligation -/

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer held at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ (F := F) c ∗ (dats m ρ 0 c).owesAt () t0_0.succ ∗ stg c cc0_stg0_0 (xstg m ρ c) ∗ stg c cc0_stg1_0 (wstg m ρ c) ∗ stg c cc0_stg2_0 (outAt m ρ c))

/-- What is set aside while the body runs: slot zero, which no copy uses, and the positions at the unused cells. -/
def aside (c : Dev nD) : sProp 𝕄 :=
  iprop(slotAny (F := F) c 0 ∗ atPos ER (sendCell c 0) 0 ∅ 0 ∗ atPos ER (recvCell c 0) 0 ∅ 0)

omit [FloatOps F] in
theorem sep_offs (Φ Ψ : Fin 16 → sProp 𝕄) : (bigL offsRev fun d => iprop(Φ d ∗ Ψ d))
    = iprop(bigSep (Finset.univ.erase 0) Φ ∗ bigSep (Finset.univ.erase 0) Ψ) := by rw [← bigSep_offsRev, bigSep_sep']

omit [FloatOps F] in
theorem recs_intro (K : Dev nD × Fin 33 → ℕ) : iprop(records (F := F) m ρ K ∗ levAts L lv) ⊢ recs (F := F) m ρ K := by
  unfold records recs
  iintro ⟨⟨H1, H2⟩, H3⟩
  isplitl [H1]; · iexact H1
  isplitl [H2] <;> iassumption

omit [FloatOps F] in
theorem slotAny_intro (c : Dev nD) (d : Fin 16) (f) : (slotAt (F := F) c d f : sProp 𝕄) ⊢ slotAny (F := F) c d := by
  unfold slotAny
  iintro H
  iexists f
  iexact H
omit [FloatOps F] in
theorem slotAny_of_got (c : Dev nD) (d : Fin 16) : (slotGot (F := F) m ρ c d : sProp 𝕄) ⊢ slotAny (F := F) c d := by
  unfold slotAny slotGot
  iintro ⟨%f, -, H⟩
  iexists f
  iexact H

theorem dst_zero : ∀ c : Dev nD, dst c 0 = c := by decide

/-- What the launch gives, as what the body starts from. -/
theorem start_of (c : Dev nD) : bodyPre m ρ c ⊢ iprop(∃ K, recs (F := F) m ρ K ∗ Start m ρ c ∗ aside (F := F) c) := by
  unfold bodyPre Φ₀ start G' posAll payToks credAll scr
  simp only [bigSep_off0]
  iintro ⟨⟨⟨⟨%K, Hrec, ⟨HaB, ⟨HaS0, HaS⟩, HaR0, HaR⟩, ⟨-, HtB⟩, ⟨-, HtS⟩, -, HtR⟩, ⟨HcB, HcR⟩, Hlev⟩, %fs, Hscr⟩, Ho, ⟨%d0, %g0, %hg0, Hx⟩, ⟨%d1, %g1, %hg1, Hw⟩, ⟨%d2, %g2, %hg2, Hout⟩⟩
  have hx : g0 = xstg m ρ c := by rw [hg0]; unfold Dat.before; rw [if_pos (fetch0_0 t0_0)]; rfl
  have hw : g1 = wstg m ρ c := by rw [hg1]; unfold Dat.before; rw [if_pos (fetch0_1 t0_0)]; rfl
  subst hx hw
  unfold Dat.owesAt Pipeline.owesWithin
  icases Ho with ⟨%W, %hW, HO⟩
  rw [show (dats m ρ 0 c).owed t0_0.castSucc = O₀ c from rfl]
  ihave Hx := (Entails.of_eq ((x_split (F := F) m ρ c).trans (bigSep_off0 _))) $$ Hx
  icases Hx with ⟨Hx0, Hx⟩
  ihave Hs := (Entails.of_eq ((slot_split (F := F) c fs).trans (bigSep_off0 _))) $$ Hscr
  icases Hs with ⟨Hs0, Hs⟩
  have hany : (bigSep (Finset.univ.erase 0) fun d : Fin 16 => (slotAt (F := F) c d fs : sProp 𝕄)) ⊢ bigSep (Finset.univ.erase 0) fun d => slotAny (F := F) c d :=
    bigSep_mono fun d _ => slotAny_intro (F := F) c d fs
  ihave Hs := hany $$ Hs
  iexists K
  isplitl [Hrec Hlev]
  · iapply (recs_intro (F := F) m ρ K); isplitl [Hrec] <;> iassumption
  unfold Start SigSt aside ow O₀
  simp only [← bigSep_offs, ← bigSep_offsRev, bigSep_sep']
  isplitr [Hs0 HaS0 HaR0]
  · isplitl [HO HtB Hs]
    · isplitl [HO]; · iexists W; iexact HO
      isplitl [HtB] <;> iassumption
    isplitl [HcB HaB]
    · isplitl [HcB] <;> iassumption
    isplitl [Hx]; · iexact Hx
    isplitl [HtS HtR]
    · isplitl [HtS] <;> iassumption
    isplitl [Hx0 Hw Hout]
    · isplitl [Hx0]; · rw [dst_zero]; iexact Hx0
      isplitl [Hw]; · unfold wPts; iexact Hw
      iexists g2; unfold oPts; iexact Hout
    isplitl [HcR HaR]
    · isplitl [HcR] <;> iassumption
    iexact HaS
  isplitl [Hs0]
  · unfold slotAny; iexists fs; iexact Hs0
  isplitl [HaS0] <;> iassumption

/-- What the body ends with, as what the launch takes back. -/
theorem finish_to (K : Dev nD × Fin 33 → ℕ) (c : Dev nD) :
    iprop(recs (F := F) m ρ K ∗ Finish m ρ c ∗ aside (F := F) c) ⊢ iprop(|={Set.univ}=> bodyPost m ρ c) := by
  unfold Finish aside ow
  rw [sep_offs, sep_offs]
  iintro ⟨#HR, ⟨⟨%W, HO⟩, ⟨Hx, HaS⟩, HaB, Hx0, Hw, Ho, ⟨Hs, HaR⟩⟩, Hs0, HaS0, HaR0⟩
  imod (close_at (F := F) m ρ K (c, 0) (barCell c) rfl 1 (duties_later (F := F) m ρ _)) $$ [HaB] with HzB
  · isplitr; · iexact HR
    iexact HaB
  imod (close_all (F := F) m ρ K (sendCell c) (fun d => (c, sIx d)) (kcell_send c) (duties_send0_all (F := F) m ρ c)) $$ [HaS0 HaS] with HzS
  · isplitr; · iexact HR
    isplitl [HaS0] <;> iassumption
  imod (close_all (F := F) m ρ K (recvCell c) (fun d => (c, rIx d)) (kcell_recv c) (duties_recv0_all (F := F) m ρ c)) $$ [HaR0 HaR] with HzR
  · isplitr; · iexact HR
    isplitl [HaR0] <;> iassumption
  imodintro
  have hany : (bigSep (Finset.univ.erase 0) fun d : Fin 16 => (slotGot (F := F) m ρ c d : sProp 𝕄)) ⊢ bigSep (Finset.univ.erase 0) fun d => slotAny (F := F) c d :=
    bigSep_mono fun d _ => slotAny_of_got (F := F) m ρ c d
  ihave Hs := hany $$ Hs
  unfold bodyPost Φ₁ Dat.owesAt Pipeline.owesWithin
  isplitl [HzB HzS HzR Hs Hs0]
  · isplitl [HzB]; · iexact HzB
    isplitl [HzS HzR]
    · isplitl [HzS] <;> iassumption
    unfold scr
    iapply (slot_join (F := F) c)
    rw [bigSep_off0]
    isplitl [Hs0] <;> iassumption
  isplitl [HO]
  · iexists W
    isplitr; · ipureintro; exact fun _ _ => Or.inl trivial
    iexact HO
  isplitl [Hx Hx0]
  · iexists _; isplitr; · (ipureintro; rfl)
    iapply (Entails.of_eq ((x_split (F := F) m ρ c).trans (bigSep_off0 _)).symm)
    isplitl [Hx0]; · rw [dst_zero]; iexact Hx0
    iexact Hx
  isplitl [Hw]
  · iexists _; isplitr; · (ipureintro; rfl)
    unfold wPts; iexact Hw
  iexists _; isplitr; · (ipureintro; rfl)
  unfold oPts; iexact Ho

/-- The body obligation on device `c`. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre m ρ c ⊢ wp frame (wpE (defs₀ (F := F)) 𝒱₀ c none) Set.univ bodyProg (fun _ => bodyPost m ρ c)
  refine (start_of m ρ c).trans (BIBase.Entails.trans ?_ (wp_fupd _ _ _ _ _))
  iintro ⟨%K, H⟩
  iapply (body_run (F := F) m ρ K c (Q := fun _ => iprop(|={Set.univ}=> bodyPost m ρ c)) (finish_to m ρ K c))
  iexact H

end Cert.KernelProof

end
-- ==== Proof.Launch.lean ====
/- The launch: the exchange's cells and tokens minted and dealt to the devices that use them, the credit each device is
   launched with, and the run of the whole program. -/
module

public import proofs.«01_k».proof.Proof.Oblig
public import Idealize.ShloMosaic.Lib.Pipeline.CollectiveSegs

@[expose] public section

set_option maxRecDepth 65536

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

theorem ownSemFacts : Pipeline.OwnSemFacts cfg0.spec osem := by decide

theorem share_eq (c : Dev nD) (w : Fin cfg0.W) : (dats m ρ 0 c).share w = fullShare := by unfold Dat.share; split <;> rfl

/-! ## Cells and tokens -/

theorem csem_injective : ∀ j j' : Fin 33, csem j = csem j' → j = j' := by decide
theorem kcell_injective : Function.Injective (kcell : Dev nD × Fin 33 → GSem nD τ sig) := by
  rintro ⟨c, j⟩ ⟨c', j'⟩ h
  have h1 : c = c' := congrArg (fun g : GSem nD τ sig => g.1.1) h
  have h2 : j = j' := csem_injective j j' (congrArg Prod.snd h)
  rw [h1, h2]
def allCells : Finset (GSem nD τ sig) := Finset.univ.map ⟨kcell, kcell_injective⟩

/-- The tokens minted: of each device, one per barrier duty, one per send cell, one per receive cell. -/
def tokOf (x : Dev nD × Fin 3 × Fin 16) : GSem nD τ sig × ℕ × Fin 16 :=
  if x.2.1 = 0 then (barCell x.1, 0, x.2.2) else if x.2.1 = 1 then (sendCell x.1 x.2.2, 0, 0) else (recvCell x.1 x.2.2, 0, 0)
/-- A token's device, kind and offset, read off its cell and its duty. -/
def tokIx (t : GSem nD τ sig × ℕ × Fin 16) : Dev nD × Fin 3 × Fin 16 := match t.1.2 with
  | .reg _ => (t.1.1.1, 0, t.2.2)
  | .dma q => match role q with
    | some (false, d) => (t.1.1.1, 1, d)
    | some (true, d) => (t.1.1.1, 2, d)
    | none => (t.1.1.1, 0, 0)
theorem tokOf_injective : Function.Injective tokOf := by
  refine Function.LeftInverse.injective (g := tokIx) ?_
  rintro ⟨c, k, d⟩
  fin_cases k
  · rfl
  · show tokIx (sendCell c d, 0, 0) = _; unfold tokIx; dsimp only; rw [role_send]; rfl
  · show tokIx (recvCell c d, 0, 0) = _; unfold tokIx; dsimp only; rw [role_recv]; rfl
def allToks : Finset (GSem nD τ sig × ℕ × Fin 16) := Finset.univ.map ⟨tokOf, tokOf_injective⟩

def u₀ : UU := (initOf (Pipeline.cells cfgs cellOf_inj) (Pipeline.launchToks cfgs cellOf_inj), initOf allCells allToks)

/-- The tokens of device `c`'s own cells. -/
def toks (c : Dev nD) : sProp 𝕄 :=
  iprop((bigSep Finset.univ fun d : Fin 16 => dutyTok ER (barCell c) 0 d) ∗ (bigSep Finset.univ fun d : Fin 16 => dutyTok ER (sendCell c d) 0 (0 : Fin 16))
    ∗ bigSep Finset.univ fun d : Fin 16 => dutyTok ER (recvCell c d) 0 (0 : Fin 16))

/-- What the launch element deals device `c`. -/
def G (c : Dev nD) : sProp 𝕄 :=
  iprop((bigSep Finset.univ fun j : Fin 33 => roundState ER (rd (F := F) m ρ) (kcell (c, j)) 0)
    ∗ ((bigSep Finset.univ fun j : Fin 33 => atPos ER (kcell (c, j)) 0 ∅ 0) ∗ bigSep Finset.univ fun j : Fin 33 => reached ER (kcell (c, j)) 0) ∗ toks (F := F) c)

omit [FloatOps F] in
theorem over_cells (Φ : GSem nD τ sig → sProp 𝕄) : bigSep allCells Φ = bigSep Finset.univ fun c : Dev nD => bigSep Finset.univ fun j : Fin 33 => Φ (kcell (c, j)) := by
  unfold allCells; rw [bigSep_map, bigSep_univ_prod]; rfl
omit [FloatOps F] in
theorem bigSep_three (Φ : Fin 3 → sProp 𝕄) : bigSep Finset.univ Φ = iprop(Φ 0 ∗ Φ 1 ∗ Φ 2) := bigSep_W0 Φ
omit [FloatOps F] in
theorem over_toks : bigSep allToks (fun x => (dutyTok ER x.1 x.2.1 x.2.2 : sProp 𝕄)) = bigSep Finset.univ fun c : Dev nD => toks (F := F) c := by
  unfold allToks; rw [bigSep_map, bigSep_univ_prod]
  exact bigSep_congr fun c _ => by rw [bigSep_univ_prod, bigSep_three]; unfold toks; rfl

omit [FloatOps F] in
theorem fund_all : BI.own (ER (initOf allCells allToks)) ⊢ (|==> bigSep Finset.univ (G (F := F) m ρ) : sProp 𝕄) := by
  iintro HX
  imod (Rounds.fund ER (rd (F := F) m ρ) allCells allToks) $$ HX with ⟨Hst, Hr, Hat, Htok⟩
  imodintro
  ihave Hst := (Entails.of_eq (over_cells (F := F) fun g => roundState ER (rd (F := F) m ρ) g 0)) $$ Hst
  ihave Hat := (Entails.of_eq (over_cells (F := F) fun g => atPos ER g 0 ∅ 0)) $$ Hat
  ihave Hr := (Entails.of_eq (over_cells (F := F) fun g => reached ER g 0)) $$ Hr
  ihave Htok := (Entails.of_eq (over_toks (F := F))) $$ Htok
  unfold G; simp only [bigSep_sep']
  isplitl [Hst]; · iexact Hst
  isplitl [Hat Hr]
  · isplitl [Hat] <;> iassumption
  iexact Htok

omit [FloatOps F] in
theorem sems_cells (c : Dev nD) :
    iprop(Pipeline.ownSems0 (Ix := Unit) (Name := ℕ) (U := UU) (Lvl := ℕ) (Val := Elt F) (τ := τ) osem c ∗ unscopedSems0 c)
      ⊢ (bigSep Finset.univ fun j : Fin 33 => semVal (kcell (c, j)) 0 : sProp 𝕄) := by
  rw [ownSems0_eq, unscopedSems0_eq, bigSep_cells (F := F) c fun g => semVal g 0]
  iintro ⟨H, HB⟩
  isplitl [HB] <;> iassumption

/-- The invariants of device `c`'s cells, each at some name. -/
def someInvs (c : Dev nD) : sProp 𝕄 := bigSep Finset.univ fun j : Fin 33 => iprop(∃ κ : ℕ, cellInv ER (rd (F := F) m ρ) κ (kcell (c, j)))

omit [FloatOps F] in
theorem core_alloc (c : Dev nD) :
    iprop(Pipeline.ownSems0 (Ix := Unit) (Name := ℕ) (U := UU) (Lvl := ℕ) (Val := Elt F) (τ := τ) osem c ∗ unscopedSems0 c ∗ G (F := F) m ρ c)
      ⊢ |={Set.univ}=> iprop(someInvs (F := F) m ρ c
          ∗ ((bigSep Finset.univ fun j : Fin 33 => atPos ER (kcell (c, j)) 0 ∅ 0) ∗ bigSep Finset.univ fun j : Fin 33 => reached ER (kcell (c, j)) 0) ∗ toks (F := F) c) := by
  unfold G
  iintro ⟨Hos, Hus, Hst, Hat, Htok⟩
  ihave Hv := (sems_cells (F := F) c) $$ [Hos Hus]
  · isplitl [Hos] <;> iassumption
  imod (show iprop((bigSep Finset.univ fun j : Fin 33 => semVal (kcell (c, j)) 0) ∗ bigSep Finset.univ fun j : Fin 33 => roundState ER (rd (F := F) m ρ) (kcell (c, j)) 0)
      ⊢ (|={Set.univ}=> someInvs (F := F) m ρ c : sProp 𝕄) from by
        rw [← bigSep_sep']
        exact (bigSep_mono fun j _ => (Rounds.body_intro ER (rd (F := F) m ρ) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- A family over devices and offsets may be dealt by sending the part of offset `d` around by `d` places. -/
theorem deal (e : Fin 16 → (Dev nD ≃ Dev nD)) (Φ : Dev nD → Fin 16 → sProp 𝕄) :
    (bigSep Finset.univ fun c : Dev nD => bigSep Finset.univ fun d : Fin 16 => Φ c d)
      = bigSep Finset.univ fun c : Dev nD => bigSep Finset.univ fun d : Fin 16 => Φ (e d c) d := by
  rw [bigSep_univ_comm, bigSep_univ_comm (fun (c : Dev nD) (d : Fin 16) => Φ (e d c) d)]
  exact bigSep_congr fun d _ => bigSep_univ_equiv (e d) fun c => Φ c d

omit [FloatOps F] in
/-- The tokens go to the devices that pay them. -/
theorem toks_dealt : (bigSep Finset.univ fun c : Dev nD => (toks (F := F) c : sProp 𝕄)) ⊢ bigSep Finset.univ fun c : Dev nD => payToks (F := F) c := by
  unfold toks payToks
  simp only [bigSep_sep']
  rw [deal (F := F) (fun d => (shift d).symm) (fun c d => dutyTok ER (barCell c) 0 d),
    deal (F := F) shift (fun c d => dutyTok ER (recvCell c d) 0 (0 : Fin 16))]
  exact BIBase.Entails.rfl

omit [FloatOps F] in
theorem pos_cells (c : Dev nD) : (bigSep Finset.univ fun j : Fin 33 => (atPos ER (kcell (c, j)) 0 ∅ 0 : sProp 𝕄)) = posAll (F := F) c := by
  unfold posAll; exact bigSep_cells (F := F) c fun g => atPos ER g 0 ∅ 0

omit [FloatOps F] in
theorem ghost_intro (K : Dev nD × Fin 33 → ℕ) (c : Dev nD) :
    iprop(records (F := F) m ρ K ∗ (posAll (F := F) c ∗ payToks (F := F) c)) ⊢ G' (F := F) m ρ c := by
  unfold G'
  iintro H
  iexists K
  iexact H

omit [FloatOps F] in
theorem regroup :
    (bigSep Finset.univ fun c : Dev nD => iprop(someInvs (F := F) m ρ c
          ∗ ((bigSep Finset.univ fun j : Fin 33 => atPos ER (kcell (c, j)) 0 ∅ 0) ∗ bigSep Finset.univ fun j : Fin 33 => reached ER (kcell (c, j)) 0) ∗ toks (F := F) c) : sProp 𝕄)
      ⊢ bigSep Finset.univ (G' (F := F) m ρ) := by
  unfold someInvs
  simp only [bigSep_sep', pos_cells]
  rw [← bigSep_univ_prod (fun ck : Dev nD × Fin 33 => iprop(∃ κ : ℕ, cellInv ER (rd (F := F) m ρ) κ (kcell ck))),
    ← bigSep_univ_prod (fun ck : Dev nD × Fin 33 => (reached ER (kcell ck) 0 : sProp 𝕄))]
  iintro ⟨HI, ⟨Hat, #HR⟩, Htok⟩
  ihave HK := (BI.bigSep_exists_pi Finset.univ (fun (ck : Dev nD × Fin 33) (κ : ℕ) => (cellInv ER (rd (F := F) m ρ) κ (kcell ck) : sProp 𝕄))) $$ HI
  icases HK with ⟨%K, #HI⟩
  ihave Htk := (toks_dealt (F := F)) $$ Htok
  iapply (bigSep_with_persistent (R := records (F := F) m ρ K) fun c _ => ghost_intro (F := F) m ρ K c)
  isplitr
  · unfold records; isplitl; · iexact HI
    iexact HR
  · rw [bigSep_sep']
    isplitl [Hat] <;> iassumption

omit [FloatOps F] in
/-- The global step: every device's semaphores become the exchange's cells. -/
theorem glob : (bigSep Finset.univ fun c => iprop(Pipeline.ownSems0 (Ix := Unit) (Name := ℕ) (U := UU) (Lvl := ℕ) (Val := Elt F) (τ := τ) osem c ∗ unscopedSems0 c ∗ G (F := F) m ρ c) : sProp 𝕄)
    ⊢ |={Set.univ}=> bigSep Finset.univ (G' (F := F) m ρ) :=
  ((bigSep_mono fun c _ => core_alloc (F := F) m ρ c).trans (bigSep_fupd _ _)).trans (BI.fupd_mono (regroup (F := F) m ρ))

/-! ## The launch credit -/

theorem bar_iff {a b : Dev nD} : Iff (barCell a = barCell b) (a = b) := ⟨fun h => congrArg (fun g : GSem nD τ sig => g.1.1) h, fun h => h ▸ rfl⟩
theorem recvS_injective : ∀ d d' : Fin 16, recvS d = recvS d' → d = d' := by decide
theorem recv_iff {a b : Dev nD} {d e : Fin 16} : Iff (recvCell a d = recvCell b e) (a = b ∧ d = e) :=
  ⟨fun h => ⟨congrArg (fun g : GSem nD τ sig => g.1.1) h, recvS_injective d e (by
    have h2 : (SemLoc.dma (recvS d) : SemLoc sig) = .dma (recvS e) := congrArg Prod.snd h
    exact SemLoc.dma.inj h2)⟩, fun h => by rw [h.1, h.2]⟩
theorem recv_ne_bar (a b : Dev nD) (d : Fin 16) : recvCell a d ≠ barCell b := fun h => dma_ne_bar _ (congrArg Prod.snd h)

/-- All devices together owe a barrier cell one unit for each offset. -/
theorem sum_oweB (c : Dev nD) : ∀ l, (∑ e : Dev nD, oweB e l (barCell c) ()) = l.length
  | [] => Finset.sum_eq_zero fun _ _ => rfl
  | d :: l => by
    have h : ∀ e : Dev nD, oweB e (d :: l) (barCell c) () = oweB e l (barCell c) () + if e = dst c d then 1 else 0 := fun e => by
      rw [oweB, Pi.add_apply, Finsupp.add_apply, tallyAt_apply]
      congr 1
      by_cases he : e = dst c d
      · subst he; rw [frm_dst, if_pos ⟨rfl, rfl⟩, if_pos rfl]
      · rw [if_neg he, if_neg fun hh => he (by rw [bar_iff.mp hh.1, dst_frm])]
    rw [Finset.sum_congr rfl fun e _ => h e, Finset.sum_add_distrib, sum_oweB c l, Finset.sum_ite_eq' Finset.univ (dst c d), if_pos (Finset.mem_univ _), List.length_cons]
theorem sum_oweB_recv (c : Dev nD) (d : Fin 16) : ∀ l (e : Dev nD), oweB e l (recvCell c d) () = 0
  | [], _ => rfl
  | a :: l, e => by rw [oweB, Pi.add_apply, Finsupp.add_apply, tallyAt_apply, if_neg fun hh => recv_ne_bar _ _ _ hh.1, sum_oweB_recv c d l e]
theorem sum_oweR_bar (c : Dev nD) : ∀ l (e : Dev nD), oweR e l (barCell c) () = 0
  | [], _ => rfl
  | a :: l, e => by rw [oweR, Pi.add_apply, Finsupp.add_apply, tallyAt_apply, if_neg fun hh => recv_ne_bar _ _ _ hh.1.symm, sum_oweR_bar c l e]
/-- All devices together owe a receive cell one square's credit if its offset is listed. -/
theorem sum_oweR (c : Dev nD) (d : Fin 16) : ∀ l, (∑ e : Dev nD, oweR e l (recvCell c d) ()) = l.count d * N
  | [] => (Finset.sum_eq_zero fun _ _ => rfl).trans (Nat.zero_mul _).symm
  | a :: l => by
    have h : ∀ e : Dev nD, oweR e (a :: l) (recvCell c d) () = oweR e l (recvCell c d) () + if e = frm c d then (if a = d then N else 0) else 0 := fun e => by
      rw [oweR, Pi.add_apply, Finsupp.add_apply, tallyAt_apply]
      congr 1
      by_cases ha : a = d
      · subst ha
        rw [if_pos rfl]
        by_cases he : e = frm c a
        · subst he; rw [dst_frm, if_pos ⟨rfl, rfl⟩, if_pos rfl]
        · rw [if_neg he, if_neg fun hh => he (by rw [(recv_iff.mp hh.1).1, frm_dst])]
      · rw [if_neg ha, if_neg fun hh => ha (recv_iff.mp hh.1).2.symm, ite_self]
    rw [Finset.sum_congr rfl fun e _ => h e, Finset.sum_add_distrib, sum_oweR c d l, Finset.sum_ite_eq' Finset.univ (frm c d), if_pos (Finset.mem_univ _), List.count_cons, Nat.add_mul]
    congr 1
    by_cases ha : a = d
    · subst ha; simp
    · simp [ha]

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same]
  unfold O₀
  rw [Finset.sum_congr rfl fun e _ => show (oweR e offs + oweB e offsRev) (barCell c) () = oweB e offsRev (barCell c) () by
    rw [Pi.add_apply, Finsupp.add_apply, sum_oweR_bar, Nat.zero_add], sum_oweB]
  rfl
theorem launch_recv (c : Dev nD) (d : Fin 16) (hd : d ≠ 0) :
    tallyOn (recvCell c d) (launchCredit (Pipeline.owing O₀) 0 (recvCell c d)) = (tallyAt (recvCell c d) () N : CellTallies nD τ sig Unit) := by
  unfold tallyAt; refine congrArg _ (Finsupp.ext fun u => ?_); cases u
  rw [Pipeline.launchCredit_owing, Finsupp.single_eq_same]
  unfold O₀
  rw [Finset.sum_congr rfl fun e _ => show (oweR e offs + oweB e offsRev) (recvCell c d) () = oweR e offs (recvCell c d) () by
    rw [Pi.add_apply, Finsupp.add_apply, sum_oweB_recv, Nat.add_zero], sum_oweR, show offs.count d = 1 from by revert d; decide, Nat.one_mul]

/-- The receive semaphores of the nonzero offsets. -/
def recvEmb : Fin 16 ↪ SemLoc sig := ⟨fun d => .dma (recvS d), fun d e h => recvS_injective d e (SemLoc.dma.inj h)⟩

omit [FloatOps F] in
theorem creds (c : Dev nD) : (Pipeline.launchCred O₀ c : sProp 𝕄) ⊢ credAll (F := F) c := by
  unfold Pipeline.launchCred credAll
  rw [bigSep_univ_at _ (SemLoc.reg barS), launch_bar]
  refine sep_mono_right ?_
  refine (bigSep_subset (t := (Finset.univ.erase 0).map recvEmb) fun x hx => ?_).trans ?_
  · obtain ⟨d, -, rfl⟩ := Finset.mem_map.mp hx
    exact Finset.mem_erase.mpr ⟨dma_ne_bar _, Finset.mem_univ _⟩
  · rw [bigSep_map]
    exact Entails.of_eq (bigSep_congr fun d hd => congrArg _ (launch_recv c d (Finset.mem_erase.mp hd).1))

/-! ## The theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (F := F) m ρ c)
      ⊢ |={Set.univ}=> iprop(start (F := F) m ρ c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

theorem phi0_intro (c : Dev nD) :
    iprop(start (F := F) m ρ c ∗ Pipeline.prefHeld Pipeline.Prefetch.none c (fun _ => fullShare.right) (fun k => k.elim0) ∗ Pipeline.scopedRest cfg0.spec c)
      ⊢ (dats (F := F) m ρ 0 c).Φ 0 := by
  rw [show (dats (F := F) m ρ 0 c).Φ 0 = Φ₀ m ρ c from rfl, scopedRest0_eq]
  unfold Φ₀ scr
  iintro ⟨Hs, -, Hr⟩
  isplitl [Hs] <;> iassumption

theorem phi1_exit (c : Dev nD) :
    (dats (F := F) m ρ 0 c).Φ (Fin.last cfg0.N) ⊢ iprop(unscopedSems0 c ∗ Pipeline.ownSems0 osem c ∗ Pipeline.scopedRest cfg0.spec c) := by
  rw [show (dats (F := F) m ρ 0 c).Φ (Fin.last cfg0.N) = Φ₁ (F := F) c from rfl, scopedRest0_eq, ownSems0_eq, unscopedSems0_eq]
  unfold Φ₁ scr
  exact BIBase.Entails.rfl

theorem waits (c : Dev nD) : (levAts L lv : sProp 𝕄) ⊢ Pipeline.cellsWaits cfgs (dats (F := F) m ρ) () 0 c :=
  Pipeline.cellsWaits_intro cfgs (dats (F := F) m ρ) () 0 c fun w s t =>
    mayWait_stage (F := F) c _ (by fin_cases w <;> fin_cases s <;> decide) _ (by
      rcases t with ⟨_ | _, ht⟩
      · exact Or.inl rfl
      · exact Or.inr rfl)

/-! ## The run -/

/-- What a window's array holds after the run. -/
def finalA (c : Dev nD) (w : Fin cfg0.W) : Buf (Elt F) ((cfg0.win w).arr.view.loc (c : Thread nD τ)) := (dats (F := F) m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with every counter at zero, every fair run of the sixteen devices' program ends, with each
    window's array at its final contents and every counter back at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats (F := F) m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (F := F) m ρ) (G' := G' (F := F) m ρ) (u₀ := u₀)
    (hu₀ := by
      unfold u₀
      iintro Hu
      ihave H := (ownU_pair _ _) $$ Hu
      icases H with ⟨HP, HX⟩
      imod (fund_all (F := F) m ρ) $$ HX with HG
      imodintro
      isplitl [HP] <;> iassumption)
    (hglob := glob (F := F) m ρ)
    (hA := fun _ _ => rfl) (hpf := fun _ k => k.elim0)
    (X := start (F := F) m ρ) (Y := fun c => unscopedSems0 c) (Z := fun _ => iprop(emp))
    (hX := start_intro (F := F) m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments' arrays after the run hold what they held. -/
theorem finalA_x (c : Dev nD) : finalA m ρ c (0 : Fin 3) = (s₀ m ρ).mem ((c : Thread nD τ).loc main_arg0) :=
  (dats (F := F) m ρ 0 c).arrAt_in (0 : Fin 3) rfl _
theorem finalA_w (c : Dev nD) : finalA m ρ c (1 : Fin 3) = (s₀ m ρ).mem ((c : Thread nD τ).loc main_arg1) :=
  (dats (F := F) m ρ 0 c).arrAt_in (1 : Fin 3) rfl _

end Cert.KernelProof

end
-- ==== Proof.Result.lean ====
/- What the result's array holds after the run, and the pieces of the arguments read at an index. -/
module

public import proofs.«01_k».proof.Proof.Launch
public import Idealize.ShloMosaic.Lib.Pipeline.Value
public import Idealize.ShloMosaic.Lib.ValueIdxCore

@[expose] public section

set_option maxRecDepth 65536

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

open Idealize.ShloMosaic.ValueIdx

/-- The result's array ends holding what the body left. -/
theorem finalA_o (c : Dev nD) : finalA m ρ c (2 : Fin 3) = outAt m ρ c := by
  have h : (win0_2.blk (0 : Fin 1)).view.read (Elt F) (finalA m ρ c (2 : Fin 3)) = outAt m ρ c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  have hz : (fun a => (win0_2.index (0 : Fin 1)) a * main_v1.ty.shape.size a) = fun _ => 0 := funext fun a => by fin_cases a <;> decide
  exact (Memref.read_access_unit_zero (Elt F) main_v1 hz (fun a => by fin_cases a <;> decide) _).symm.trans h

omit [FloatOps F] in
/-- A device's columns of `x` as staged are its first argument. -/
theorem xstg_eq (c : Dev nD) : xstg m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _
omit [FloatOps F] in
/-- Its `w` as staged is its second argument. -/
theorem wstg_eq (c : Dev nD) : wstg m ρ c = m ((c : Thread nD τ).loc main_arg1) := by
  have hz : (fun a => (win0_1.index (0 : Fin 1)) a * main_arg1.ty.shape.size a) = fun _ => 0 := funext fun a => by fin_cases a <;> decide
  exact Memref.read_access_unit_zero (Elt F) main_arg1 hz (fun a => by fin_cases a <;> decide) _

/-- Row `r` of row block `b`, of 16 blocks of 256. -/
abbrev rowOf (b : Dev nD) (r : Fin 256) : Fin 4096 := ⟨256 * b.val + r.val, by have := b.isLt; have := r.isLt; simp only [nD] at *; omega⟩

theorem x_emb (b : Dev nD) (r k : Fin 256) : (xR b).emb (ix2 r k) = (ix2 (rowOf b r) k : S4096x256.Idx) :=
  funext fun a => Fin.ext (by
    match a with
    | ⟨0, _⟩ => exact congrArg (256 * b.val + ·) (Nat.one_mul r.val)
    | ⟨1, _⟩ => exact (Nat.zero_add _).trans (Nat.one_mul k.val))
theorem w_emb (b : Dev nD) (k : Fin 256) (j : Fin 2048) : (wR b).emb (ix2 k j) = (ix2 (rowOf b k) j : S4096x2048.Idx) :=
  funext fun a => Fin.ext (by
    match a with
    | ⟨0, _⟩ => exact congrArg (256 * b.val + ·) (Nat.one_mul k.val)
    | ⟨1, _⟩ => exact (Nat.zero_add _).trans (Nat.one_mul j.val))

omit [FloatOps F] in
/-- The piece device `s` contributes to device `b`, at an index. -/
theorem xval_at (s b : Dev nD) (r k : Fin 256) :
    xval m ρ s b (ix2 r k) = (m ((s : Thread nD τ).loc main_arg0) : S4096x256.Idx → Elt F .f32) (ix2 (rowOf b r) k) := by
  unfold xval; rw [xstg_eq]
  exact congrArg (m ((s : Thread nD τ).loc main_arg0) : S4096x256.Idx → Elt F .f32) (x_emb b r k)
omit [FloatOps F] in
/-- Row block `b` of device `c`'s `w`, at an index. -/
theorem wval_at (c b : Dev nD) (k : Fin 256) (j : Fin 2048) :
    wval m ρ c b (ix2 k j) = (m ((c : Thread nD τ).loc main_arg1) : S4096x2048.Idx → Elt F .f32) (ix2 (rowOf b k) j) := by
  unfold wval; rw [wstg_eq]
  exact congrArg (m ((c : Thread nD τ).loc main_arg1) : S4096x2048.Idx → Elt F .f32) (w_emb b k j)

end Cert.KernelProof

end
-- ==== Proof.Shares.lean ====
/- The running sum over the extended reals: on every device, the sum of the sixteen devices' products, whatever the
   order they were added in. -/
module

public import proofs.«01_k».proof.Proof.Result
public import Idealize.ShloMosaic.PureOps.Ideal
public import Idealize.ShloMosaic.Lib.IdealHost
public import Idealize.ShloMosaic.Lib.MatmulPlain

@[expose] public section

set_option maxRecDepth 65536

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

open Idealize.ShloMosaic.ValueIdx
open scoped BigOperators

/-- A device's first argument, as an array. -/
abbrev xArg (c : Dev nD) : S4096x256.Idx → EReal := m ((c : Thread nD τ).loc main_arg0)
/-- A device's second argument, as an array. -/
abbrev wArg (c : Dev nD) : S4096x2048.Idx → EReal := m ((c : Thread nD τ).loc main_arg1)

/-- Device `s`'s share of device `c`'s entry `(r, j)`: the product over the 256 columns of `x` that device `s` holds. -/
def part (c s : Dev nD) (r : Fin 256) (j : Fin 2048) : EReal :=
  ∑ k : Fin 256, xArg m s (ix2 (rowOf c r) k) * wArg m c (ix2 (rowOf s k) j)

/-- A product of a 256-square with a 256 × 2048 block onto zero, at an entry. -/
theorem prod_at (a : Vec Ideal S256x256 .f32) (w : Vec Ideal S256x2048 .f32) (r : Fin 256) (j : Fin 2048) :
    (matmul (φ₁ := .f32) (φ₂ := .f32) dot_S256x256_S256x2048_S256x2048_1_0_0_1_n_n none (a : FVec Ideal S256x256 .f32) (w : FVec Ideal S256x2048 .f32)
      (constant S256x2048 .f32 0x00000000#32) : FVec Ideal S256x2048 .f32) (ix2 r j) = ∑ k : Fin 256, (a : S256x256.Idx → EReal) (ix2 r k) * (w : S256x2048.Idx → EReal) (ix2 k j) :=
  (Ideal.matmul_plain_apply (M := 256) (K := 256) (N := 2048) (φ₁ := .f32) (φ₂ := .f32) none a w (constant S256x2048 .f32 0x00000000#32) r j).trans (by
    rw [show (constant S256x2048 .f32 0x00000000#32 : FVec Ideal S256x2048 .f32) (ix2 r j) = (0 : EReal) from Ideal.ofBits_zero_f32, zero_add])

theorem first_at (c : Dev nD) (r : Fin 256) (j : Fin 2048) :
    (k0_pay1 (xval m ρ c c) (wval m ρ c c) : S256x2048.Idx → EReal) (ix2 r j) = part m c c r j := by
  unfold k0_pay1
  simp only [shapeCast_self]
  rw [prod_at]
  exact Finset.sum_congr rfl fun k _ => by rw [xval_at, wval_at]
theorem step_at (out : Vec Ideal S256x2048 .f32) (c s : Dev nD) (r : Fin 256) (j : Fin 2048) :
    (accStep out (xval m ρ s c) (wval m ρ c s) : S256x2048.Idx → EReal) (ix2 r j) = (out : S256x2048.Idx → EReal) (ix2 r j) + part m c s r j := by
  unfold accStep
  simp only [shapeCast_self]
  refine congrArg ((out : S256x2048.Idx → EReal) (ix2 r j) + ·) ((prod_at _ _ r j).trans ?_)
  exact Finset.sum_congr rfl fun k _ => by rw [xval_at, wval_at]

/-- The running sum at an entry: the device's own share, then the shares along the list. -/
theorem accL_at (c : Dev nD) (r : Fin 256) (j : Fin 2048) : ∀ l : List (Fin 16),
    (accL m ρ c l : S256x2048.Idx → EReal) (ix2 r j) = part m c c r j + (l.map fun d => part m c (frm c d) r j).sum
  | [] => (first_at m ρ c r j).trans (by rw [List.map_nil, List.sum_nil, add_zero])
  | d :: l => (step_at m ρ (accL m ρ c l) c (frm c d) r j).trans (by
      rw [accL_at c r j l, List.map_cons, List.sum_cons, add_assoc, add_comm (List.sum _)])

/-- Devices named by how many places before `c` they are. -/
def frmEquiv (c : Dev nD) : Fin 16 ≃ Dev nD :=
  ⟨fun d => frm c d, fun b => (c : Fin 16) - b, fun d => by revert c d; decide, fun b => by revert c b; decide⟩

/-- After the last step it is the sum of all sixteen shares. -/
theorem accL_all (c : Dev nD) (r : Fin 256) (j : Fin 2048) :
    (accL m ρ c offsRev : S256x2048.Idx → EReal) (ix2 r j) = ∑ s : Dev nD, part m c s r j := by
  rw [accL_at, ← Equiv.sum_comp (frmEquiv c) fun s => part m c s r j, ← Finset.add_sum_erase _ _ (Finset.mem_univ (0 : Fin 16)), offsRev_set,
    List.sum_toFinset _ (show offsRev.Nodup by decide)]
  have h : frmEquiv c 0 = c := by revert c; decide
  rw [h]; rfl

end Cert.KernelProof

end
-- ==== Proof.Equation.lean ====
/- The equation: the sixteen shares add up to the product of the whole arrays, and the product times its logistic is
   the quotient that the reference writes. -/
module

public import proofs.«01_k».proof.Proof.Shares
public import Idealize.ShloMosaic.Lib.Pointwise.Sums
public import Idealize.ShloMosaic.Lib.Layout

@[expose] public section

set_option maxRecDepth 65536

noncomputable section

namespace Cert.KernelProof

open Cert.KernelIdeal Cert.KernelIdeal.Gen

open Idealize.ShloMosaic
open Idealize.ShloMosaic.TcCoe
open scoped BigOperators

variable (m : (ℓ : Loc nD τ sig) → Buf (Elt Ideal) ℓ) (ρ : Dev nD → PrngReg)

/-- The whole arrays' shapes. -/
abbrev XS : Shape := ⟨2, ![4096, 4096]⟩
abbrev WS : Shape := ⟨2, ![4096, 2048]⟩
abbrev OS : Shape := ⟨2, ![256, 2048]⟩

/-- An entry of the product of the whole arrays. -/
def whole (X : XS.Idx → EReal) (W : WS.Idx → EReal) (R : Fin 4096) (j : Fin 2048) : EReal := ∑ k : Fin 4096, X (ValueIdx.ix2 R k) * W (ValueIdx.ix2 k j)

/-- The sixteen shares of an entry of device `c`'s rows add up to the whole product's entry. -/
theorem sum_part (X : XS.Idx → EReal) (W : WS.Idx → EReal)
    (hx : ∀ s : Dev nD, xArg m s = Layout.block ⟨2, ![4096, 256]⟩ XS 1 16 s X) (hw : ∀ s : Dev nD, wArg m s = W)
    (c : Dev nD) (r : Fin 256) (j : Fin 2048) : (∑ s : Dev nD, part m c s r j) = whole X W (rowOf c r) j := by
  unfold whole
  rw [Fin.sum_univ_tiles 16 256 rfl]
  refine Finset.sum_congr rfl fun s _ => Finset.sum_congr rfl fun k _ => ?_
  rw [hx s, hw c, Layout.block_apply]
  have h1 : ((Layout.Tiles.idx (S := ⟨2, ![4096, 256]⟩) (T := XS) (a := 1) (k := 16) (by decide) s (ValueIdx.ix2 (rowOf c r) k)) : XS.Idx)
      = ValueIdx.ix2 (rowOf c r) ⟨s.val * 256 + k.val, by have := s.isLt; have := k.isLt; simp only [nD] at *; omega⟩ :=
    funext fun a => Fin.ext (by
      match a with
      | ⟨0, _⟩ => rfl
      | ⟨1, _⟩ => rfl)
  have h2 : rowOf s k = ⟨s.val * 256 + k.val, by have := s.isLt; have := k.isLt; simp only [nD] at *; omega⟩ :=
    Fin.ext (congrArg (· + k.val) (Nat.mul_comm 256 s.val))
  rw [h2]
  exact congrArg (fun q => X q * _) h1

/-- The exponential is never negative. -/
theorem exp_nonneg (x : EReal) : 0 ≤ Ideal.exp x := by
  induction x using EReal.rec with
  | bot => exact le_of_eq rfl
  | top => exact le_top
  | coe r => exact EReal.coe_nonneg.mpr (Real.exp_pos r).le
theorem one_add_exp_ne (x : EReal) : 1 + Ideal.exp x ≠ 0 := fun e => by
  have h : (1 : EReal) ≤ 1 + Ideal.exp x := le_add_of_nonneg_right (exp_nonneg x)
  rw [e] at h; exact absurd h (by simp)
/-- A number times its logistic is the number over one plus the exponential of its negative. -/
theorem silu_eq (y : EReal) : y * Ideal.logistic y = Ideal.div y (1 + Ideal.exp (-y)) := by
  unfold Ideal.logistic; exact Ideal.mul_one_div (one_add_exp_ne _)

/-- The kernel's last step at an entry. -/
theorem last_at (a : Vec Ideal S256x2048 .f32) (i : S256x2048.Idx) :
    (k0_pay17 a : S256x2048.Idx → EReal) i = (a : S256x2048.Idx → EReal) i * Ideal.logistic ((a : S256x2048.Idx → EReal) i) := by
  unfold k0_pay17
  simp only [shapeCast_self]
  rfl

/-- The kernel's result at an entry: the whole product's entry over one plus the exponential of its negative. -/
theorem outAt_at (X : XS.Idx → EReal) (W : WS.Idx → EReal)
    (hx : ∀ s : Dev nD, xArg m s = Layout.block ⟨2, ![4096, 256]⟩ XS 1 16 s X) (hw : ∀ s : Dev nD, wArg m s = W)
    (c : Dev nD) (r : Fin 256) (j : Fin 2048) :
    (outAt m ρ c : S256x2048.Idx → EReal) (ValueIdx.ix2 r j)
      = Ideal.div (whole X W (rowOf c r) j) (1 + Ideal.exp (-(whole X W (rowOf c r) j))) := by
  rw [← sum_part m X W hx hw c r j, ← accL_all m ρ c r j, ← silu_eq]
  exact last_at (accL m ρ c offsRev) (ValueIdx.ix2 r j)

/-- An array over the whole rows whose entries are the kernel's is cut, along the rows, in the devices' results. -/
theorem out_block (V : WS.Idx → EReal) (c : Dev nD)
    (h : ∀ (r : Fin 256) (j : Fin 2048), (outAt m ρ c : S256x2048.Idx → EReal) (ValueIdx.ix2 r j) = V (ValueIdx.ix2 (rowOf c r) j)) :
    (outAt m ρ c : S256x2048.Idx → EReal) = Layout.block OS WS 0 16 c V := by
  funext i
  obtain ⟨r, j, rfl⟩ : ∃ (r : Fin 256) (j : Fin 2048), i = ValueIdx.ix2 r j := ⟨i 0, i 1, ValueIdx.eq_ix2 i⟩
  rw [h, Layout.block_apply]
  refine congrArg V (funext fun a => Fin.ext ?_)
  match a with
  | ⟨0, _⟩ => exact congrArg (· + r.val) (Nat.mul_comm 256 c.val)
  | ⟨1, _⟩ => rfl

end Cert.KernelProof

end
-- ==== Proof.References.lean ====
/- What the two references compute, entry by entry. -/
module

public import proofs.«01_k».proof.Proof.Equation
public import proofs.«01_k».proof.Proof.Gen.ReferenceIdeal.Run
public import proofs.«01_k».proof.Proof.Gen.UnclippedIdeal.Run

@[expose] public section

set_option maxRecDepth 65536

noncomputable section

namespace Cert.KernelProof

open Cert.KernelIdeal Cert.KernelIdeal.Gen

open Idealize.ShloMosaic
open Idealize.ShloMosaic.TcCoe
open scoped BigOperators

/-- The host's product of the whole arrays, at an entry. -/
theorem dot_at {d : DotDims XS WS WS} (hd : d = DotDims.plain 4096 4096 2048) (X : FVec Ideal XS .f32) (W : FVec Ideal WS .f32) (R : Fin 4096) (j : Fin 2048) :
    (Host.dotGeneral d none X W : FVec Ideal WS .f32) (ValueIdx.ix2 R j) = whole X W R j := by
  subst hd
  exact (Ideal.matmul_plain_apply (M := 4096) (K := 4096) (N := 2048) (φ₁ := .f32) (φ₂ := .f32) none X W (fun _ => (0 : EReal)) R j).trans (zero_add _)

section Unclipped
open Cert.UnclippedIdeal

/-- The reference's result without the clip. -/
def refU (X : FVec Ideal XS .f32) (W : FVec Ideal WS .f32) : FVec Ideal WS .f32 :=
  let y : FVec Ideal WS .f32 := Host.dotGeneral Cert.UnclippedIdeal.dot_S4096x4096_S4096x2048_S4096x2048_1_0_0_1_n_n none X W
  Host.divf y (addf (broadcastInDim Cert.UnclippedIdeal.S4096x2048 ![] Cert.UnclippedIdeal.Gen.bcast_S_S4096x2048 (constant Cert.UnclippedIdeal.S_ .f32 0x3F800000#32)) (Host.exp (Host.negf y)))

theorem refU_at (X : FVec Ideal XS .f32) (W : FVec Ideal WS .f32) (R : Fin 4096) (j : Fin 2048) :
    refU X W (ValueIdx.ix2 R j) = Ideal.div (whole X W R j) (1 + Ideal.exp (-(whole X W R j))) := by
  rw [← dot_at (d := Cert.UnclippedIdeal.dot_S4096x4096_S4096x2048_S4096x2048_1_0_0_1_n_n) rfl X W R j, ← Ideal.ofBits_one_f32]
  rfl
end Unclipped

section Clipped

/-- The reference's result, with its clip. -/
def refC (X : FVec Ideal XS .f32) (W : FVec Ideal WS .f32) : FVec Ideal WS .f32 :=
  let y : FVec Ideal WS .f32 := Host.dotGeneral Cert.ReferenceIdeal.dot_S4096x4096_S4096x2048_S4096x2048_1_0_0_1_n_n none X W
  Host.divf y (addf (broadcastInDim Cert.ReferenceIdeal.S4096x2048 ![] Cert.ReferenceIdeal.Gen.bcast_S_S4096x2048 (constant Cert.ReferenceIdeal.S_ .f32 0x3F800000#32))
    (Host.exp (Host.negf (minimumf (broadcastInDim Cert.ReferenceIdeal.S4096x2048 ![] Cert.ReferenceIdeal.Gen.bcast_S_S4096x2048 (id (constant Cert.ReferenceIdeal.S_ .f32 0x42700000#32)))
      (maximumf (broadcastInDim Cert.ReferenceIdeal.S4096x2048 ![] Cert.ReferenceIdeal.Gen.bcast_S_S4096x2048 (id (constant Cert.ReferenceIdeal.S_ .f32 0xC2700000#32))) y)))))

theorem ofBits_sixty : Ideal.ofBits .f32 0x42700000#32 = ((60 : ℝ) : EReal) := by
  simp [Ideal.ofBits, Ideal.ieee, -EReal.coe_mul]; norm_num
theorem ofBits_neg_sixty : Ideal.ofBits .f32 0xC2700000#32 = ((-60 : ℝ) : EReal) := by
  simp [Ideal.ofBits, Ideal.ieee, -EReal.coe_mul, -EReal.coe_neg]; norm_num

/-- Where the product lies between -60 and 60 the clip changes nothing. -/
theorem refC_at (X : FVec Ideal XS .f32) (W : FVec Ideal WS .f32) (R : Fin 4096) (j : Fin 2048)
    (lo : ((-60 : ℝ) : EReal) ≤ whole X W R j) (hi : whole X W R j ≤ ((60 : ℝ) : EReal)) :
    refC X W (ValueIdx.ix2 R j) = Ideal.div (whole X W R j) (1 + Ideal.exp (-(whole X W R j))) := by
  have h : refC X W (ValueIdx.ix2 R j) = Ideal.div (whole X W R j) (1 + Ideal.exp (-(min ((60 : ℝ) : EReal) (max ((-60 : ℝ) : EReal) (whole X W R j))))) := by
    rw [← dot_at (d := Cert.ReferenceIdeal.dot_S4096x4096_S4096x2048_S4096x2048_1_0_0_1_n_n) rfl X W R j, ← Ideal.ofBits_one_f32, ← ofBits_sixty, ← ofBits_neg_sixty]
    rfl
  rw [h, max_eq_right lo, min_eq_right hi]
end Clipped

end Cert.KernelProof

end
-- ==== Proof.Small.lean ====
/- The precondition read: every device's products stay within 3.75, so that the whole product stays within the clip. -/
module

public import proofs.«01_k».proof.Defs
public import proofs.«01_k».proof.Proof.References
public import Idealize.ShloMosaic.Lib.Pipeline.Value

@[expose] public section

set_option maxRecDepth 65536

noncomputable section

namespace Cert.KernelProof

open Idealize.ShloMosaic
open Idealize.ShloMosaic.TcCoe
open scoped BigOperators

/-- The side conditions of the precondition's operations. -/
theorem smallFacts : Cert.Pre_small_KernelIdeal.Facts where
  shapeCasts_S4096x2048_S16x256x2048 := by decide
  transposes_S16x256x2048_S256x16x2048_1_0_2 := by decide
  shapeCasts_S256x16x2048_S256x32768 := by decide
  bcast_S_S4096x32768 := by decide
  dot_S4096x256_S256x32768_S4096x32768_1_0_0_1_n_n_wf := by decide
/-- The same of the precondition read of the whole arrays. -/
theorem smallFactsWhole : Cert.Pre_small_ReferenceIdeal.Facts where
  shapeCasts_S4096x2048_S1x4096x2048 := by decide
  transposes_S1x4096x2048_S4096x1x2048_1_0_2 := by decide
  shapeCasts_S4096x1x2048_S4096x2048 := by decide
  bcast_S_S4096x2048 := by decide
  dot_S4096x4096_S4096x2048_S4096x2048_1_0_0_1_n_n_wf := by decide

theorem ofBits_bound : Ideal.ofBits .f32 0x40700000#32 = ((3.75 : ℝ) : EReal) := by
  simp [Ideal.ofBits, Ideal.ieee, -EReal.coe_mul]; norm_num

section Read
variable [hF : Cert.Pre_small_KernelIdeal.Facts]
open Cert.Pre_small_KernelIdeal Cert.Pre_small_KernelIdeal.Facts

/-- The rows of `w` cut in sixteen blocks and laid side by side. -/
def side (w : FVec Ideal S4096x2048 .f32) : FVec Ideal S256x32768 .f32 :=
  shapeCast S256x32768 (transpose S256x16x2048 [1, 0, 2] (shapeCast S16x256x2048 w shapeCasts_S4096x2048_S16x256x2048) transposes_S16x256x2048_S256x16x2048_1_0_2)
    shapeCasts_S256x16x2048_S256x32768

/-- Column `j` of row block `b`, laid side by side. -/
abbrev colOf (b : Fin 16) (j : Fin 2048) : Fin 32768 := ⟨b.val * 2048 + j.val, by have := b.isLt; have := j.isLt; omega⟩

theorem side_at (w : FVec Ideal S4096x2048 .f32) (b : Fin 16) (k : Fin 256) (j : Fin 2048) :
    side w (ValueIdx.ix2 k (colOf b j)) = w (ValueIdx.ix2 (rowOf b k) j) := by
  unfold side
  rw [shapeCast_apply _ _ (ValueIdx.ix2 k (colOf b j)) (ValueIdx.ix3 k b j : S256x16x2048.Idx),
    transpose_apply _ _ _ _ (ValueIdx.ix3 b k j : S16x256x2048.Idx),
    shapeCast_apply _ _ _ (ValueIdx.ix2 (rowOf b k) j : S4096x2048.Idx)]
  · rw [Shape.rowMajor_val_two, Shape.rowMajor_val_three]
    show (256 * b.val + k.val) * 2048 + j.val = (b.val * 256 + k.val) * 2048 + j.val
    omega
  · intro a
    match a with
    | ⟨0, _⟩ => rfl
    | ⟨1, _⟩ => rfl
    | ⟨2, _⟩ => rfl
  · rw [Shape.rowMajor_val_two, Shape.rowMajor_val_three]
    show (k.val * 16 + b.val) * 2048 + j.val = k.val * 32768 + (b.val * 2048 + j.val)
    omega

/-- An extended real whose absolute value is at most a bound lies between the bound and its negative. -/
theorem between {p : EReal} {q : ℝ} (h : max p (-p) ≤ (q : EReal)) : ((-q : ℝ) : EReal) ≤ p ∧ p ≤ (q : EReal) :=
  ⟨by rw [EReal.coe_neg]; exact EReal.neg_le.mp ((le_max_right _ _).trans h), (le_max_left _ _).trans h⟩

/-- Where the precondition is all ones, a product over a device's columns lies within 3.75. -/
theorem small_at (x : FVec Ideal S4096x256 .f32) (w : FVec Ideal S4096x2048 .f32) (h : Cert.Pre_small_KernelIdeal.fn (F := Ideal) x w = fun _ => 1#1)
    (R : Fin 4096) (b : Fin 16) (j : Fin 2048) :
    ((-3.75 : ℝ) : EReal) ≤ (∑ k : Fin 256, (x (ValueIdx.ix2 R k) : EReal) * w (ValueIdx.ix2 (rowOf b k) j))
      ∧ (∑ k : Fin 256, (x (ValueIdx.ix2 R k) : EReal) * w (ValueIdx.ix2 (rowOf b k) j)) ≤ ((3.75 : ℝ) : EReal) := by
  have hd : (Host.dotGeneral dot_S4096x256_S256x32768_S4096x32768_1_0_0_1_n_n none x (side w) : FVec Ideal S4096x32768 .f32) (ValueIdx.ix2 R (colOf b j))
      = ∑ k : Fin 256, (x (ValueIdx.ix2 R k) : EReal) * w (ValueIdx.ix2 (rowOf b k) j) :=
    ((Ideal.matmul_plain_apply (M := 4096) (K := 256) (N := 32768) (φ₁ := .f32) (φ₂ := .f32) none x (side w) (fun _ => (0 : EReal)) R (colOf b j)).trans (zero_add _)).trans
      (Finset.sum_congr rfl fun k _ => by rw [side_at])
  have h1 : Ideal.cmp .ole (max ((Host.dotGeneral dot_S4096x256_S256x32768_S4096x32768_1_0_0_1_n_n none x (side w) : FVec Ideal S4096x32768 .f32) (ValueIdx.ix2 R (colOf b j)))
      (-((Host.dotGeneral dot_S4096x256_S256x32768_S4096x32768_1_0_0_1_n_n none x (side w) : FVec Ideal S4096x32768 .f32) (ValueIdx.ix2 R (colOf b j)))))
      (Ideal.ofBits .f32 0x40700000#32) = 1#1 := congrFun h (ValueIdx.ix2 R (colOf b j))
  rw [hd, ofBits_bound] at h1
  have h2 : max (∑ k : Fin 256, (x (ValueIdx.ix2 R k) : EReal) * w (ValueIdx.ix2 (rowOf b k) j))
      (-(∑ k : Fin 256, (x (ValueIdx.ix2 R k) : EReal) * w (ValueIdx.ix2 (rowOf b k) j))) ≤ ((3.75 : ℝ) : EReal) := by
    by_contra hn
    unfold Ideal.cmp at h1
    simp only [decide_eq_false hn] at h1
    exact absurd h1 (by decide)
  have h3 := between h2
  exact ⟨by rw [show (-3.75 : ℝ) = -(3.75 : ℝ) by norm_num]; exact h3.1, h3.2⟩
end Read

/-- A sum over the sixteen devices of one number. -/
theorem sum_sixteen (q : ℝ) : (∑ _s : Fin 16, (q : EReal)) = ((16 * q : ℝ) : EReal) := by
  rw [Finset.sum_const, Finset.card_univ, Fintype.card_fin, ← EReal.coe_nsmul]
  simp [nsmul_eq_mul, -EReal.coe_mul]

/-- Where every device's share lies within 3.75 the whole product lies within 60. -/
theorem within (f : Fin 16 → EReal) (h : ∀ s, ((-3.75 : ℝ) : EReal) ≤ f s ∧ f s ≤ ((3.75 : ℝ) : EReal)) :
    ((-60 : ℝ) : EReal) ≤ ∑ s, f s ∧ (∑ s, f s) ≤ ((60 : ℝ) : EReal) := by
  have lo := Finset.sum_le_sum (s := Finset.univ) fun s _ => (h s).1
  have hi := Finset.sum_le_sum (s := Finset.univ) fun s _ => (h s).2
  rw [sum_sixteen] at lo hi
  exact ⟨by rw [show (-60 : ℝ) = 16 * -3.75 by norm_num]; exact lo, by rw [show (60 : ℝ) = 16 * 3.75 by norm_num]; exact hi⟩

end Cert.KernelProof

end
-- ==== Proof.lean ====
/- The claims proved: the kernel's run (Proof/Launch.lean) read at its arguments and at its result, the references'
   runs, and the equation between the results (Proof/Equation.lean, Proof/References.lean, Proof/Small.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.UnclippedIdeal.Run
public import Idealize.ShloMosaic.Adequacy
public import Idealize.ShloMosaic.Init
public import proofs.«01_k».proof.Proof.Small

@[expose] public section

set_option maxRecDepth 65536

noncomputable section

namespace Cert.Proof

open Idealize.ShloMosaic Idealize.ShloMosaic.TcCoe Idealize.SL.Sem Cert.KernelProof

/-- At words, the kernel's body table before its region is added is that of the ideal reading: one text, read twice. -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  revert a
  refine Fin.cases ?_ (fun i => i.elim0) l
  intro a
  exact rfl
/-- So are the whole body tables. -/
theorem defs_bits : Cert.Kernel.defs (F := Bits) = Cert.KernelIdeal.defs (F := Bits) :=
  congrArg (Pipeline.defs (Cert.KernelIdeal.pcfgs (F := Bits))) bodies_eq
/-- The kernel as written runs, leaves its arguments and ends with every counter at zero. -/
theorem frame_kernel : Cert.quiescent_Kernel := fun m ρ _ => by
  rw [defs_bits]
  exact (θ_run (Cert.KernelIdeal.defs (F := Bits)) _ _).mono
    (fun _ h => ⟨fun c => ⟨(h.1 c (0 : Fin 3)).trans (finalA_x m ρ c), (h.1 c (1 : Fin 3)).trans (finalA_w m ρ c)⟩, h.2⟩)
    (run_main (F := Bits) m ρ)
/-- The same over the extended reals. -/
theorem frame_ideal : Cert.quiescent_KernelIdeal := fun m ρ _ =>
  (θ_run Cert.KernelIdeal.defs _ _).mono
    (fun _ h => ⟨fun c => ⟨(h.1 c (0 : Fin 3)).trans (finalA_x m ρ c), (h.1 c (1 : Fin 3)).trans (finalA_w m ρ c)⟩, h.2⟩)
    (run_main (F := Ideal) m ρ)
/-- The reference runs and leaves its arguments. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
/-- So does the reference without the clip. -/
theorem frame_unclipped : Cert.quiescent_UnclippedIdeal := fun m ρ _ =>
  (θ_run Cert.UnclippedIdeal.defs _ _).mono (fun r h => ⟨fun c => (h c).2, sem_eq_zero_of_no_sems (by decide) r.2⟩)
    (Cert.UnclippedIdeal.Value.run (F := Ideal) m ρ)

/-- The kernel's run at its result and its arguments, when the devices' results are the row blocks of an array. -/
theorem run_block (m : (ℓ : Loc Cert.KernelIdeal.nD Cert.KernelIdeal.τ Cert.KernelIdeal.sig) → Buf (Elt Ideal) ℓ) (ρ : Dev Cert.KernelIdeal.nD → PrngReg)
    (V : WS.Idx → EReal)
    (h : ∀ c (r : Fin 256) (j : Fin 2048), (outAt m ρ c : Cert.KernelIdeal.S256x2048.Idx → EReal) (ValueIdx.ix2 r j) = V (ValueIdx.ix2 (rowOf c r) j)) :
    θ_run (Cert.KernelIdeal.defs (F := Ideal)) (onTc (τ := Cert.KernelIdeal.τ) (Cert.KernelIdeal.main (F := Ideal))) ⟨m, fun _ => 0, ρ⟩ fun r =>
      ∀ c : Dev Cert.KernelIdeal.nD,
        r.2.mem ((c.tc : Thread Cert.KernelIdeal.nD Cert.KernelIdeal.τ).loc Cert.KernelIdeal.main_v1) = Layout.block ⟨2, ![256, 2048]⟩ ⟨2, ![4096, 2048]⟩ 0 16 c V
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1) :=
  (θ_run Cert.KernelIdeal.defs _ _).mono
    (fun _ hr c => ⟨((hr.1 c (2 : Fin 3)).trans (finalA_o m ρ c)).trans (out_block m ρ V c (h c)),
      (hr.1 c (0 : Fin 3)).trans (finalA_x m ρ c), (hr.1 c (1 : Fin 3)).trans (finalA_w m ρ c)⟩)
    (run_main (F := Ideal) m ρ)

/-- The kernel's results are the row blocks of the reference's result without the clip, whatever the arguments. -/
theorem value_unclipped : Cert.algebraic_KernelIdeal_UnclippedIdeal := by
  intro m ρ m' ρ' _ hagree
  refine ⟨refU (m' (((0 : Dev Cert.UnclippedIdeal.nD).tc : Thread _ Cert.UnclippedIdeal.τ).loc Cert.UnclippedIdeal.main_arg0))
    (m' (((0 : Dev Cert.UnclippedIdeal.nD).tc : Thread _ Cert.UnclippedIdeal.τ).loc Cert.UnclippedIdeal.main_arg1)), ?_, ?_⟩
  · refine run_block m ρ _ fun c r j => ?_
    rw [refU_at]
    exact outAt_at m ρ _ _ (fun s => (hagree s).1) (fun s => (hagree s).2) c r j
  · exact (θ_run Cert.UnclippedIdeal.defs _ _).mono (fun _ h => h 0) (Cert.UnclippedIdeal.Value.run (F := Ideal) m' ρ')

/-- They are the row blocks of the reference's result itself where the precondition holds. -/
theorem value_clipped : Cert.algebraic_KernelIdeal_ReferenceIdeal_pre_small_KernelIdeal (hPre_small_KernelIdeal := smallFacts) := by
  intro m ρ m' ρ' hpre hagree
  refine ⟨refC (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine run_block m ρ _ fun c r j => ?_
    have hb := within (fun s => part m c s r j) fun s => by
      have h := small_at (hF := smallFacts) _ _ (hpre s) (rowOf c r) s j
      rw [(hagree s).2, ← (hagree c).2] at h
      exact h
    rw [sum_part m _ _ (fun s => (hagree s).1) (fun s => (hagree s).2) c r j] at hb
    rw [refC_at _ _ _ _ hb.1 hb.2]
    exact outAt_at m ρ _ _ (fun s => (hagree s).1) (fun s => (hagree s).2) c r j
  · exact (θ_run Cert.ReferenceIdeal.defs _ _).mono (fun _ h => h 0) (Cert.ReferenceIdeal.Value.run (F := Ideal) m' ρ')

/-- All the claims of the statement together. -/
theorem claim : Cert.Claim :=
  ⟨Cert.Kernel.Gen.facts, Cert.KernelIdeal.Gen.facts, Cert.ReferenceIdeal.Gen.facts, Cert.UnclippedIdeal.Gen.facts, smallFacts, smallFactsWhole,
    frame_kernel, frame_ideal, fun m ρ _ => frame_ideal m ρ trivial, frame_ref, fun m ρ _ => frame_ref m ρ trivial, frame_unclipped, trivial,
    value_unclipped, value_clipped⟩

end Cert.Proof

end
